-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_v96) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_v72) = v1 c
          ∧ r.2.mem ((c.tc : Thread Cert.Reference3Ideal.nD Cert.Reference3Ideal.τ).loc Cert.Reference3Ideal.main_v73) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v31_0)) (v1 : (c : Dev Cert.Kernel5Ideal.nD) → Buf (Elt Ideal) ((c.tc : Thread Cert.Kernel5Ideal.nD Cert.Kernel5Ideal.τ).loc Cert.Kernel5Ideal.main_v31_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31_0) = v0 c
          ∧ r.2.mem ((c.tc : Thread Cert.Kernel5Ideal.nD Cert.Kernel5Ideal.τ).loc Cert.Kernel5Ideal.main_v31_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v94) = v0 c
          ∧ r.2.mem ((c.tc : Thread Cert.Reference5Ideal.nD Cert.Reference5Ideal.τ).loc Cert.Reference5Ideal.main_v96) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_v72) = v1 c
          ∧ r.2.mem ((c.tc : Thread Cert.Reference6Ideal.nD Cert.Reference6Ideal.τ).loc Cert.Reference6Ideal.main_v73) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_inputs.lean ====
abbrev S2 : Shape := ⟨1, ![2]⟩
abbrev S20x2048x3072 : Shape := ⟨3, ![20, 2048, 3072]⟩
abbrev S128 : Shape := ⟨1, ![128]⟩
abbrev S_ : Shape := ⟨0, ![]⟩
abbrev S1 : Shape := ⟨1, ![1]⟩

class Facts : Prop where
  bitsLt_bf16_f32 : FTy.bits .bf16 < FTy.bits .f32
  bcast_S_S20x2048x3072 : S_.BroadcastsInDim S20x2048x3072 (![] : Fin 0 → Fin S20x2048x3072.rank)
  slices_S2_S1_0 : S2.Slices ![0] S1
  shapeCasts_S1_S_ : S1.ShapeCasts S_

variable [Facts]

def fn {F : FTy → Type} [FloatOps F] (main_arg0 : FVec F S2 .f32) (main_arg1 : FVec F S20x2048x3072 .bf16) (main_arg2 : FVec F S128 .f32) : IVec S20x2048x3072 1 :=
  let main_v0 : FVec F S20x2048x3072 .f32 := (extf .f32 · bitsLt_bf16_f32) main_arg1
  let main_v1 : FVec F S20x2048x3072 .f32 := Host.absf main_v0
  let main_cst : FVec F S_ .f32 := constant S_ .f32 0x7F800000#32
  let main_v2 : FVec F S20x2048x3072 .f32 := broadcastInDim S20x2048x3072 ![] bcast_S_S20x2048x3072 main_cst
  let main_v3 : IVec S20x2048x3072 1 := cmpf .olt main_v1 main_v2
  let main_v4 : FVec F S1 .f32 := (extractStridedSlice S1 ![0] · slices_S2_S1_0) main_arg0
  let main_v5 : FVec F S_ .f32 := shapeCast S_ main_v4 shapeCasts_S1_S_
  let main_v6 : FVec F S_ .f32 := Host.absf main_v5
  let main_cst_0 : FVec F S_ .f32 := constant S_ .f32 0x7F800000#32
  let main_v7 : IVec S_ 1 := cmpf .olt main_v6 main_cst_0
  let main_v8 : IVec S20x2048x3072 1 := broadcastInDim S20x2048x3072 ![] bcast_S_S20x2048x3072 main_v7
  let main_v9 : IVec S20x2048x3072 1 := andi main_v3 main_v8
  main_v9
-- ==== Kernel.lean ====
abbrev S2 : Shape := ⟨1, ![2]⟩
abbrev S20x2048x3072 : Shape := ⟨3, ![20, 2048, 3072]⟩
abbrev S128 : Shape := ⟨1, ![128]⟩
abbrev S1x128 : Shape := ⟨2, ![1, 128]⟩
abbrev S20x2048x1024 : Shape := ⟨3, ![20, 2048, 1024]⟩
abbrev S1x2048x128 : Shape := ⟨3, ![1, 2048, 128]⟩
abbrev S2048x256 : Shape := ⟨2, ![2048, 256]⟩
abbrev S2048x128 : Shape := ⟨2, ![2048, 128]⟩
abbrev S1 : Shape := ⟨1, ![1]⟩
abbrev S1x256x128 : Shape := ⟨3, ![1, 256, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩

abbrev nBuf : Space → Nat
  | .hbm => 5
  | .vmem => 10
  | .smem => 1
  | _ => 0

abbrev bufTy : (tb : Table) → Fin (tcTables nBuf tb) → BufTy
  | .hbm, ⟨0, _⟩ => ⟨S2, .f32⟩
  | .hbm, ⟨1, _⟩ => ⟨S20x2048x3072, .bf16⟩
  | .hbm, ⟨2, _⟩ => ⟨S128, .f32⟩
  | .hbm, ⟨3, _⟩ => ⟨S1x128, .f32⟩
  | .hbm, ⟨4, _⟩ => ⟨S20x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128, .f32⟩
  | .local _ .vmem, ⟨7, _⟩ => ⟨S1x2048x128, .bf16⟩
  | .local _ .vmem, ⟨8, _⟩ => ⟨S1x2048x128, .bf16⟩
  | .local _ .vmem, ⟨9, _⟩ => ⟨S2048x256, .bf16⟩
  | .local _ .smem, ⟨0, _⟩ => ⟨S2, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![20, 8, 1], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2 : Shape := ⟨1, ![2]⟩
abbrev S20x2048x3072 : Shape := ⟨3, ![20, 2048, 3072]⟩
abbrev S128 : Shape := ⟨1, ![128]⟩
abbrev S1 : Shape := ⟨1, ![1]⟩
abbrev S_ : Shape := ⟨0, ![]⟩
abbrev S20x2048x1024 : Shape := ⟨3, ![20, 2048, 1024]⟩
abbrev S20x2048x8x2x64 : Shape := ⟨5, ![20, 2048, 8, 2, 64]⟩
abbrev S20x2048x8x128 : Shape := ⟨4, ![20, 2048, 8, 128]⟩
abbrev S20x8x2x2048x2048 : Shape := ⟨5, ![20, 8, 2, 2048, 2048]⟩
abbrev S20x8x2x2048 : Shape := ⟨4, ![20, 8, 2, 2048]⟩
abbrev S20x8x2x2048x1 : Shape := ⟨5, ![20, 8, 2, 2048, 1]⟩
abbrev S20x8x1x2048x2048 : Shape := ⟨5, ![20, 8, 1, 2048, 2048]⟩
abbrev S20x8x2048x2048 : Shape := ⟨4, ![20, 8, 2048, 2048]⟩
abbrev S20x8x128x2048 : Shape := ⟨4, ![20, 8, 128, 2048]⟩
abbrev S20x2048x8 : Shape := ⟨3, ![20, 2048, 8]⟩
abbrev S20x2048x8x1 : Shape := ⟨4, ![20, 2048, 8, 1]⟩
abbrev S1x1x1x128 : Shape := ⟨4, ![1, 1, 1, 128]⟩

abbrev nBuf : Space → Nat
  | .hbm => 62
  | .vmem => 0
  | .smem => 0
  | _ => 0

abbrev bufTy : (tb : Table) → Fin (tcTables nBuf tb) → BufTy
  | .hbm, ⟨0, _⟩ => ⟨S2, .f32⟩
  | .hbm, ⟨1, _⟩ => ⟨S20x2048x3072, .bf16⟩
  | .hbm, ⟨2, _⟩ => ⟨S128, .f32⟩
  | .hbm, ⟨3, _⟩ => ⟨S1, .f32⟩
  | .hbm, ⟨4, _⟩ => ⟨S_, .f32⟩
  | .hbm, ⟨5, _⟩ => ⟨S1, .f32⟩
  | .hbm, ⟨6, _⟩ => ⟨S_, .f32⟩
  | .hbm, ⟨7, _⟩ => ⟨S20x2048x3072, .f32⟩
  | .hbm, ⟨8, _⟩ => ⟨S20x2048x1024, .f32⟩
  | .hbm, ⟨9, _⟩ => ⟨S20x2048x8x2x64, .f32⟩
  | .hbm, ⟨10, _⟩ => ⟨S20x2048x1024, .f32⟩
  | .hbm, ⟨11, _⟩ => ⟨S20x2048x8x2x64, .f32⟩
  | .hbm, ⟨12, _⟩ => ⟨S20x2048x1024, .f32⟩
  | .hbm, ⟨13, _⟩ => ⟨S20x2048x8x128, .f32⟩
  | .hbm, ⟨14, _⟩ => ⟨S20x8x2x2048x2048, .f32⟩
  | .hbm, ⟨15, _⟩ => ⟨S_, .f32⟩
  | .hbm, ⟨16, _⟩ => ⟨S_, .f32⟩
  | .hbm, ⟨17, _⟩ => ⟨S20x8x2x2048x2048, .f32⟩
  | .hbm, ⟨18, _⟩ => ⟨S20x8x2x2048x2048, .f32⟩
  | .hbm, ⟨19, _⟩ => ⟨S_, .f32⟩
  | .hbm, ⟨20, _⟩ => ⟨S20x8x2x2048, .f32⟩
  | .hbm, ⟨21, _⟩ => ⟨S_, .f32⟩
  | .hbm, ⟨22, _⟩ => ⟨S20x8x2x2048, .f32⟩
  | .hbm, ⟨23, _⟩ => ⟨S20x8x2x2048, .f32⟩
  | .hbm, ⟨24, _⟩ => ⟨S20x8x2x2048x1, .f32⟩
  | .hbm, ⟨25, _⟩ => ⟨S20x8x2x2048x2048, .f32⟩
  | .hbm, ⟨26, _⟩ => ⟨S20x8x2x2048x2048, .f32⟩
  | .hbm, ⟨27, _⟩ => ⟨S20x8x2x2048x2048, .f32⟩
  | .hbm, ⟨28, _⟩ => ⟨S_, .f32⟩
  | .hbm, ⟨29, _⟩ => ⟨S20x8x2x2048, .f32⟩
  | .hbm, ⟨30, _⟩ => ⟨S20x8x2x2048x1, .f32⟩
  | .hbm, ⟨31, _⟩ => ⟨S20x8x2x2048x2048, .f32⟩
  | .hbm, ⟨32, _⟩ => ⟨S20x8x2x2048x2048, .f32⟩
  | .hbm, ⟨33, _⟩ => ⟨S20x8x1x2048x2048, .f32⟩
  | .hbm, ⟨34, _⟩ => ⟨S20x8x2048x2048, .f32⟩
  | .hbm, ⟨35, _⟩ => ⟨S20x8x1x2048x2048, .f32⟩
  | .hbm, ⟨36, _⟩ => ⟨S20x8x2048x2048, .f32⟩
  | .hbm, ⟨37, _⟩ => ⟨S20x8x2048x2048, .f32⟩
  | .hbm, ⟨38, _⟩ => ⟨S20x8x2048x2048, .f32⟩
  | .hbm, ⟨39, _⟩ => ⟨S20x8x2048x2048, .f32⟩
  | .hbm, ⟨40, _⟩ => ⟨S20x8x128x2048, .f32⟩
  | .hbm, ⟨41, _⟩ => ⟨S20x2048x8x128, .f32⟩
  | .hbm, ⟨42, _⟩ => ⟨S20x2048x8x128, .f32⟩
  | .hbm, ⟨43, _⟩ => ⟨S_, .f32⟩
  | .hbm, ⟨44, _⟩ => ⟨S20x2048x8, .f32⟩
  | .hbm, ⟨45, _⟩ => ⟨S20x2048x8x1, .f32⟩
  | .hbm, ⟨46, _⟩ => ⟨S_, .f32⟩
  | .hbm, ⟨47, _⟩ => ⟨S20x2048x8x1, .f32⟩
  | .hbm, ⟨48, _⟩ => ⟨S20x2048x8x1, .f32⟩
  | .hbm, ⟨49, _⟩ => ⟨S_, .f32⟩
  | .hbm, ⟨50, _⟩ => ⟨S20x2048x8x1, .f32⟩
  | .hbm, ⟨51, _⟩ => ⟨S20x2048x8x1, .f32⟩
  | .hbm, ⟨52, _⟩ => ⟨S20x2048x8x1, .f32⟩
  | .hbm, ⟨53, _⟩ => ⟨S20x2048x8x128, .f32⟩
  | .hbm, ⟨54, _⟩ => ⟨S20x2048x8x128, .f32⟩
  | .hbm, ⟨55, _⟩ => ⟨S1x1x1x128, .f32⟩
  | .hbm, ⟨56, _⟩ => ⟨S20x2048x8x128, .f32⟩
  | .hbm, ⟨57, _⟩ => ⟨S20x2048x8x128, .f32⟩
  | .hbm, ⟨58, _⟩ => ⟨S20x2048x8x128, .f32⟩
  | .hbm, ⟨59, _⟩ => ⟨S20x2048x8x128, .f32⟩
  | .hbm, ⟨60, _⟩ => ⟨S20x2048x1024, .f32⟩
  | .hbm, ⟨61, _⟩ => ⟨S20x2048x1024, .bf16⟩
  | _, _ => ⟨S2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kernel2.lean ====
abbrev S20x2048x2048 : Shape := ⟨3, ![20, 2048, 2048]⟩
abbrev S2048 : Shape := ⟨1, ![2048]⟩
abbrev S20x1x2048 : Shape := ⟨3, ![20, 1, 2048]⟩
abbrev S2x2048x6656 : Shape := ⟨3, ![2, 2048, 6656]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048 : Shape := ⟨2, ![1, 2048]⟩
abbrev S20x2048x3584 : Shape := ⟨3, ![20, 2048, 3584]⟩
abbrev S20x2048x3072 : Shape := ⟨3, ![20, 2048, 3072]⟩
abbrev S1x1024x2048 : Shape := ⟨3, ![1, 1024, 2048]⟩
abbrev S1x1x2048 : Shape := ⟨3, ![1, 1, 2048]⟩
abbrev S1x2048x512 : Shape := ⟨3, ![1, 2048, 512]⟩
abbrev S1024x128 : Shape := ⟨2, ![1024, 128]⟩
abbrev S1x1024x512 : Shape := ⟨3, ![1, 1024, 512]⟩
abbrev S1024x2048 : Shape := ⟨2, ![1024, 2048]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S2048x512 : Shape := ⟨2, ![2048, 512]⟩
abbrev S1024x512 : Shape := ⟨2, ![1024, 512]⟩
abbrev S1x1024x128 : Shape := ⟨3, ![1, 1024, 128]⟩

abbrev nBuf : Space → Nat
  | .hbm => 43
  | .vmem => 20
  | .smem => 0
  | _ => 0

abbrev bufTy : (tb : Table) → Fin (tcTables nBuf tb) → BufTy
  | .hbm, ⟨0, _⟩ => ⟨S20x2048x2048, .f32⟩
  | .hbm, ⟨1, _⟩ => ⟨S2048, .f32⟩
  | .hbm, ⟨2, _⟩ => ⟨S20x1x2048, .f32⟩
  | .hbm, ⟨3, _⟩ => ⟨S20x1x2048, .f32⟩
  | .hbm, ⟨4, _⟩ => ⟨S2x2048x6656, .bf16⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S2048, .f32⟩
  | .hbm, ⟨14, _⟩ => ⟨S2048x1, .f32⟩
  | .hbm, ⟨15, _⟩ => ⟨S1x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S_, .f32⟩
  | .hbm, ⟨22, _⟩ => ⟨S2048x48, .f32⟩
  | .hbm, ⟨23, _⟩ => ⟨S_, .f32⟩
  | .hbm, ⟨24, _⟩ => ⟨S2048x48, .f32⟩
  | .hbm, ⟨25, _⟩ => ⟨S_, .f32⟩
  | .hbm, ⟨26, _⟩ => ⟨S2048x8, .f32⟩
  | .hbm, ⟨27, _⟩ => ⟨S2048x64, .f32⟩
  | .hbm, ⟨28, _⟩ => ⟨S1x2048x1x64, .f32⟩
  | .hbm, ⟨29, _⟩ => ⟨S1x2048x2x64, .f32⟩
  | .hbm, ⟨30, _⟩ => ⟨S2048x128, .f32⟩
  | .hbm, ⟨31, _⟩ => ⟨S2048x8, .f32⟩
  | .hbm, ⟨32, _⟩ => ⟨S2048x64, .f32⟩
  | .hbm, ⟨33, _⟩ => ⟨S1x2048x1x64, .f32⟩
  | .hbm, ⟨34, _⟩ => ⟨S1x2048x2x64, .f32⟩
  | .hbm, ⟨35, _⟩ => ⟨S2048x128, .f32⟩
  | .hbm, ⟨36, _⟩ => ⟨S2048x64, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S1x2048, .f32⟩
  | .hbm, ⟨41, _⟩ => ⟨S20x2048x3584, .f32⟩
  | .hbm, ⟨42, _⟩ => ⟨S20x2048x3072, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .bf16⟩
  | .local _ .vmem, ⟨18, _⟩ => ⟨S1x1024x512, .bf16⟩
  | .local _ .vmem, ⟨19, _⟩ => ⟨S1024x2048, .bf16⟩
  | _, _ => ⟨S20x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![40, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c8_i32 : BitVec 32 := 8#32
  let v21 : BitVec 32 := Scalar.addi c0_i32_9 c8_i32
  let c1_i32 : BitVec 32 := 1#32
  ⟨c0_i32_9, v21, c1_i32⟩
def k0_mult1 (k0_t1 : Fin k0_t1_loop.trips) : BitVec 32 :=
  let c0_i32_9 : BitVec 32 := 0#32
  let c1_i32 : BitVec 32 := 1#32
  let arg13 : BitVec 32 := Scf.iv c0_i32_9 c1_i32 k0_t1
  let c128_i32 : BitVec 32 := 128#32
  let v22 : BitVec 32 := Scalar.muli arg13 c128_i32
  v22
def k0_off1 (k0_t1 : Fin k0_t1_loop.trips) : Fin 3 → Nat :=
  let c0_11 : Index := 0#32
  let c0_i32_9 : BitVec 32 := 0#32
  let c1_i32 : BitVec 32 := 1#32
  let arg13 : BitVec 32 := Scf.iv c0_i32_9 c1_i32 k0_t1
  let c128_i32 : BitVec 32 := 128#32
  let v22 : BitVec 32 := Scalar.muli arg13 c128_i32
  let v23 : BitVec 32 := v22
  let v24 : Index := Scalar.indexCast v23
  let c0_12 : Index := 0#32
  ![0, v24.toNat, 0]
def k0_off2 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c128_i32 : BitVec 32 := 128#32
  let v22 : BitVec 32 := Scalar.muli arg13 c128_i32
  let v23 : BitVec 32 := v22
  let v52 : Index := Scalar.indexCast v23
  let c0_25 : Index := 0#32
  ![v52.toNat, 0]
def k0_cond2 (i : grid0.Coords) : BitVec 1 :=
  let arg1 : BitVec 32 := BitVec.ofNat 32 (i 1).val
  let c5_i32 : BitVec 32 := 5#32
  let v7 : BitVec 1 := Scalar.cmpi .sge arg1 c5_i32
  let c11_i32 : BitVec 32 := 11#32
  let v8 : BitVec 1 := Scalar.cmpi .slt arg1 c11_i32
  let v9 : BitVec 1 := Scalar.andi v7 v8
  let v_true : BitVec 1 := 1#1
  let v10 : BitVec 1 := Scalar.xori v9 v_true
  let v11 : BitVec 32 := Scalar.extui v10
  let c0_i32_5 : BitVec 32 := 0#32
  let v12 : BitVec 1 := Scalar.cmpi .ne v11 c0_i32_5
  v12

def k0_cond3 (i : grid0.Coords) : BitVec 1 :=
  let arg1 : BitVec 32 := BitVec.ofNat 32 (i 1).val
  let c5_i32 : BitVec 32 := 5#32
  let v7 : BitVec 1 := Scalar.cmpi .sge arg1 c5_i32
  let c11_i32 : BitVec 32 := 11#32
  let v8 : BitVec 1 := Scalar.cmpi .slt arg1 c11_i32
  let v9 : BitVec 1 := Scalar.andi v7 v8
  let c9_i32 : BitVec 32 := 9#32
  let v13 : BitVec 1 := Scalar.cmpi .slt arg1 c9_i32
  let v14 : BitVec 1 := Scalar.andi v9 v13
  let v15 : BitVec 32 := Scalar.extui v14
  let c0_i32_6 : BitVec 32 := 0#32
  let v16 : BitVec 1 := Scalar.cmpi .ne v15 c0_i32_6
  v16

def k0_cond4 (i : grid0.Coords) : BitVec 1 :=
  let arg1 : BitVec 32 := BitVec.ofNat 32 (i 1).val
  let c5_i32 : BitVec 32 := 5#32
  let v7 : BitVec 1 := Scalar.cmpi .sge arg1 c5_i32
  let c11_i32 : BitVec 32 := 11#32
  let v8 : BitVec 1 := Scalar.cmpi .slt arg1 c11_i32
  let v9 : BitVec 1 := Scalar.andi v7 v8
  let c9_i32_7 : BitVec 32 := 9#32
  let v17 : BitVec 1 := Scalar.cmpi .sge arg1 c9_i32_7
  let v18 : BitVec 1 := Scalar.andi v9 v17
  let v19 : BitVec 32 := Scalar.extui v18
  let c0_i32_8 : BitVec 32 := 0#32
  let v20 : BitVec 1 := Scalar.cmpi .ne v19 c0_i32_8
  v20

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let v27 : BitVec 1 := Scalar.cmpi .slt arg1 c5_i32
  let c6_i32 : BitVec 32 := 6#32
  let v28 : BitVec 32 := Scalar.subi arg1 c6_i32
  let c4_i32 : BitVec 32 := 4#32
  let v29 : BitVec 32 := Scalar.maxsi v28 c4_i32
  let v30 : BitVec 32 := Scalar.select v27 arg1 v29
  let c0_i32_10 : BitVec 32 := 0#32
  ![v16.toNat, v26.toNat, v30.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let v27 : BitVec 32 := Scalar.subi arg1 c5_i32
  let c0_i32_10 : BitVec 32 := 0#32
  let c5_i32_11 : BitVec 32 := 5#32
  let v28 : BitVec 32 := Scalar.maxsi c0_i32_10 v27
  let v29 : BitVec 32 := Scalar.minsi c5_i32_11 v28
  let c0_i32_12 : BitVec 32 := 0#32
  ![v16.toNat, v26.toNat, v29.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S20x2048x2048 : Shape := ⟨3, ![20, 2048, 2048]⟩
abbrev S2048 : Shape := ⟨1, ![2048]⟩
abbrev S20x1x2048 : Shape := ⟨3, ![20, 1, 2048]⟩
abbrev S2x2048x6656 : Shape := ⟨3, ![2, 2048, 6656]⟩
abbrev S_ : Shape := ⟨0, ![]⟩
abbrev S20x2048 : Shape := ⟨2, ![20, 2048]⟩
abbrev S20x2048x1 : Shape := ⟨3, ![20, 2048, 1]⟩
abbrev S1x1x2048 : Shape := ⟨3, ![1, 1, 2048]⟩
abbrev S1x2048x6656 : Shape := ⟨3, ![1, 2048, 6656]⟩
abbrev S2048x6656 : Shape := ⟨2, ![2048, 6656]⟩
abbrev S20x2048x6656 : Shape := ⟨3, ![20, 2048, 6656]⟩
abbrev S20x2048x1024 : Shape := ⟨3, ![20, 2048, 1024]⟩
abbrev S20x2048x8x2x64 : Shape := ⟨5, ![20, 2048, 8, 2, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x1x8 : Shape := ⟨5, ![1, 2048, 1, 1, 8]⟩
abbrev S20x2048x8x2x8 : Shape := ⟨5, ![20, 2048, 8, 2, 8]⟩
abbrev S20x2048x8x2x48 : Shape := ⟨5, ![20, 2048, 8, 2, 48]⟩
abbrev S20x2048x2560 : Shape := ⟨3, ![20, 2048, 2560]⟩
abbrev S20x2048x3584 : Shape := ⟨3, ![20, 2048, 3584]⟩
abbrev S20x2048x3072 : Shape := ⟨3, ![20, 2048, 3072]⟩

abbrev nBuf : Space → Nat
  | .hbm => 111
  | .vmem => 0
  | .smem => 0
  | _ => 0

abbrev bufTy : (tb : Table) → Fin (tcTables nBuf tb) → BufTy
  | .hbm, ⟨0, _⟩ => ⟨S20x2048x2048, .f32⟩
  | .hbm, ⟨1, _⟩ => ⟨S2048, .f32⟩
  | .hbm, ⟨2, _⟩ => ⟨S20x1x2048, .f32⟩
  | .hbm, ⟨3, _⟩ => ⟨S20x1x2048, .f32⟩
  | .hbm, ⟨4, _⟩ => ⟨S2x2048x6656, .bf16⟩
  | .hbm, ⟨5, _⟩ => ⟨S20x2048x2048, .f32⟩
  | .hbm, ⟨6, _⟩ => ⟨S_, .f32⟩
  | .hbm, ⟨7, _⟩ => ⟨S20x2048, .f32⟩
  | .hbm, ⟨8, _⟩ => ⟨S20x2048x1, .f32⟩
  | .hbm, ⟨9, _⟩ => ⟨S_, .f32⟩
  | .hbm, ⟨10, _⟩ => ⟨S20x2048x1, .f32⟩
  | .hbm, ⟨11, _⟩ => ⟨S20x2048x1, .f32⟩
  | .hbm, ⟨12, _⟩ => ⟨S_, .f32⟩
  | .hbm, ⟨13, _⟩ => ⟨S20x2048x1, .f32⟩
  | .hbm, ⟨14, _⟩ => ⟨S20x2048x1, .f32⟩
  | .hbm, ⟨15, _⟩ => ⟨S20x2048x1, .f32⟩
  | .hbm, ⟨16, _⟩ => ⟨S20x2048x2048, .f32⟩
  | .hbm, ⟨17, _⟩ => ⟨S20x2048x2048, .f32⟩
  | .hbm, ⟨18, _⟩ => ⟨S1x1x2048, .f32⟩
  | .hbm, ⟨19, _⟩ => ⟨S20x2048x2048, .f32⟩
  | .hbm, ⟨20, _⟩ => ⟨S20x2048x2048, .f32⟩
  | .hbm, ⟨21, _⟩ => ⟨S_, .f32⟩
  | .hbm, ⟨22, _⟩ => ⟨S20x1x2048, .f32⟩
  | .hbm, ⟨23, _⟩ => ⟨S20x1x2048, .f32⟩
  | .hbm, ⟨24, _⟩ => ⟨S20x2048x2048, .f32⟩
  | .hbm, ⟨25, _⟩ => ⟨S20x2048x2048, .f32⟩
  | .hbm, ⟨26, _⟩ => ⟨S20x2048x2048, .f32⟩
  | .hbm, ⟨27, _⟩ => ⟨S20x2048x2048, .f32⟩
  | .hbm, ⟨28, _⟩ => ⟨S1x2048x6656, .bf16⟩
  | .hbm, ⟨29, _⟩ => ⟨S2048x6656, .bf16⟩
  | .hbm, ⟨30, _⟩ => ⟨S2048x6656, .f32⟩
  | .hbm, ⟨31, _⟩ => ⟨S20x2048x6656, .f32⟩
  | .hbm, ⟨32, _⟩ => ⟨S20x2048x1024, .f32⟩
  | .hbm, ⟨33, _⟩ => ⟨S20x2048x8x2x64, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S2048, .f32⟩
  | .hbm, ⟨43, _⟩ => ⟨S2048x1, .f32⟩
  | .hbm, ⟨44, _⟩ => ⟨S1x8, .f32⟩
  | .hbm, ⟨45, _⟩ => ⟨S2048x8, .f32⟩
  | .hbm, ⟨46, _⟩ => ⟨S2048x8, .f32⟩
  | .hbm, ⟨47, _⟩ => ⟨S2048x8, .f32⟩
  | .hbm, ⟨48, _⟩ => ⟨S2048x8, .f32⟩
  | .hbm, ⟨49, _⟩ => ⟨S1x2048x1x1x8, .f32⟩
  | .hbm, ⟨50, _⟩ => ⟨S2048x8, .f32⟩
  | .hbm, ⟨51, _⟩ => ⟨S1x2048x1x1x8, .f32⟩
  | .hbm, ⟨52, _⟩ => ⟨S20x2048x8x2x8, .f32⟩
  | .hbm, ⟨53, _⟩ => ⟨S20x2048x8x2x8, .f32⟩
  | .hbm, ⟨54, _⟩ => ⟨S20x2048x8x2x8, .f32⟩
  | .hbm, ⟨55, _⟩ => ⟨S20x2048x8x2x8, .f32⟩
  | .hbm, ⟨56, _⟩ => ⟨S20x2048x8x2x8, .f32⟩
  | .hbm, ⟨57, _⟩ => ⟨S20x2048x8x2x8, .f32⟩
  | .hbm, ⟨58, _⟩ => ⟨S20x2048x8x2x8, .f32⟩
  | .hbm, ⟨59, _⟩ => ⟨S20x2048x8x2x8, .f32⟩
  | .hbm, ⟨60, _⟩ => ⟨S20x2048x8x2x8, .f32⟩
  | .hbm, ⟨61, _⟩ => ⟨S20x2048x8x2x8, .f32⟩
  | .hbm, ⟨62, _⟩ => ⟨S20x2048x8x2x8, .f32⟩
  | .hbm, ⟨63, _⟩ => ⟨S20x2048x8x2x8, .f32⟩
  | .hbm, ⟨64, _⟩ => ⟨S20x2048x8x2x48, .f32⟩
  | .hbm, ⟨65, _⟩ => ⟨S20x2048x8x2x64, .f32⟩
  | .hbm, ⟨66, _⟩ => ⟨S20x2048x1024, .f32⟩
  | .hbm, ⟨67, _⟩ => ⟨S20x2048x1024, .f32⟩
  | .hbm, ⟨68, _⟩ => ⟨S20x2048x8x2x64, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S2048, .f32⟩
  | .hbm, ⟨78, _⟩ => ⟨S2048x1, .f32⟩
  | .hbm, ⟨79, _⟩ => ⟨S1x8, .f32⟩
  | .hbm, ⟨80, _⟩ => ⟨S2048x8, .f32⟩
  | .hbm, ⟨81, _⟩ => ⟨S2048x8, .f32⟩
  | .hbm, ⟨82, _⟩ => ⟨S2048x8, .f32⟩
  | .hbm, ⟨83, _⟩ => ⟨S2048x8, .f32⟩
  | .hbm, ⟨84, _⟩ => ⟨S1x2048x1x1x8, .f32⟩
  | .hbm, ⟨85, _⟩ => ⟨S2048x8, .f32⟩
  | .hbm, ⟨86, _⟩ => ⟨S1x2048x1x1x8, .f32⟩
  | .hbm, ⟨87, _⟩ => ⟨S20x2048x8x2x8, .f32⟩
  | .hbm, ⟨88, _⟩ => ⟨S20x2048x8x2x8, .f32⟩
  | .hbm, ⟨89, _⟩ => ⟨S20x2048x8x2x8, .f32⟩
  | .hbm, ⟨90, _⟩ => ⟨S20x2048x8x2x8, .f32⟩
  | .hbm, ⟨91, _⟩ => ⟨S20x2048x8x2x8, .f32⟩
  | .hbm, ⟨92, _⟩ => ⟨S20x2048x8x2x8, .f32⟩
  | .hbm, ⟨93, _⟩ => ⟨S20x2048x8x2x8, .f32⟩
  | .hbm, ⟨94, _⟩ => ⟨S20x2048x8x2x8, .f32⟩
  | .hbm, ⟨95, _⟩ => ⟨S20x2048x8x2x8, .f32⟩
  | .hbm, ⟨96, _⟩ => ⟨S20x2048x8x2x8, .f32⟩
  | .hbm, ⟨97, _⟩ => ⟨S20x2048x8x2x8, .f32⟩
  | .hbm, ⟨98, _⟩ => ⟨S20x2048x8x2x8, .f32⟩
  | .hbm, ⟨99, _⟩ => ⟨S20x2048x8x2x48, .f32⟩
  | .hbm, ⟨100, _⟩ => ⟨S20x2048x8x2x64, .f32⟩
  | .hbm, ⟨101, _⟩ => ⟨S20x2048x1024, .f32⟩
  | .hbm, ⟨102, _⟩ => ⟨S20x2048x1024, .f32⟩
  | .hbm, ⟨103, _⟩ => ⟨S_, .f32⟩
  | .hbm, ⟨104, _⟩ => ⟨S20x2048x1024, .f32⟩
  | .hbm, ⟨105, _⟩ => ⟨S20x2048x1024, .f32⟩
  | .hbm, ⟨106, _⟩ => ⟨S20x2048x2560, .f32⟩
  | .hbm, ⟨107, _⟩ => ⟨S20x2048x1024, .f32⟩
  | .hbm, ⟨108, _⟩ => ⟨S20x2048x3584, .f32⟩
  | .hbm, ⟨109, _⟩ => ⟨S20x2048x3072, .f32⟩
  | .hbm, ⟨110, _⟩ => ⟨S20x2048x3072, .bf16⟩
  | _, _ => ⟨S20x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_5 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_7 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩

abbrev nD : Nat := 1
abbrev τ : Topo := Topo.v7x

variable {F : FTy → Type} [FloatOps F]
-- ==== Kernel3.lean ====
abbrev S40960x512 : Shape := ⟨2, ![40960, 512]⟩
abbrev S40960x1024 : Shape := ⟨2, ![40960, 1024]⟩
abbrev S40960x2048 : Shape := ⟨2, ![40960, 2048]⟩
abbrev S20x1x2048 : Shape := ⟨3, ![20, 1, 2048]⟩
abbrev S512 : Shape := ⟨1, ![512]⟩
abbrev S2x2048x2048 : Shape := ⟨3, ![2, 2048, 2048]⟩
abbrev S2048 : Shape := ⟨1, ![2048]⟩
abbrev S16x2048 : Shape := ⟨2, ![16, 2048]⟩
abbrev S1x512 : Shape := ⟨2, ![1, 512]⟩
abbrev S1x2048 : Shape := ⟨2, ![1, 2048]⟩
abbrev S16x40960 : Shape := ⟨2, ![16, 40960]⟩
abbrev S512x512 : Shape := ⟨2, ![512, 512]⟩
abbrev S512x1024 : Shape := ⟨2, ![512, 1024]⟩
abbrev S512x2048 : Shape := ⟨2, ![512, 2048]⟩
abbrev S1x1x2048 : Shape := ⟨3, ![1, 1, 2048]⟩
abbrev S1x2048x2048 : Shape := ⟨3, ![1, 2048, 2048]⟩
abbrev S16x512 : Shape := ⟨2, ![16, 512]⟩
abbrev S512x1 : Shape := ⟨2, ![512, 1]⟩
abbrev S2048x2048 : Shape := ⟨2, ![2048, 2048]⟩

abbrev nBuf : Space → Nat
  | .hbm => 18
  | .vmem => 25
  | .smem => 0
  | _ => 0

abbrev bufTy : (tb : Table) → Fin (tcTables nBuf tb) → BufTy
  | .hbm, ⟨0, _⟩ => ⟨S40960x512, .bf16⟩
  | .hbm, ⟨1, _⟩ => ⟨S40960x1024, .bf16⟩
  | .hbm, ⟨2, _⟩ => ⟨S40960x512, .f32⟩
  | .hbm, ⟨3, _⟩ => ⟨S40960x2048, .f32⟩
  | .hbm, ⟨4, _⟩ => ⟨S20x1x2048, .f32⟩
  | .hbm, ⟨5, _⟩ => ⟨S512, .f32⟩
  | .hbm, ⟨6, _⟩ => ⟨S2x2048x2048, .bf16⟩
  | .hbm, ⟨7, _⟩ => ⟨S2048, .f32⟩
  | .hbm, ⟨8, _⟩ => ⟨S2048, .f32⟩
  | .hbm, ⟨9, _⟩ => ⟨S20x1x2048, .f32⟩
  | .hbm, ⟨10, _⟩ => ⟨S20x1x2048, .f32⟩
  | .hbm, ⟨11, _⟩ => ⟨S16x2048, .f32⟩
  | .hbm, ⟨12, _⟩ => ⟨S1x512, .f32⟩
  | .hbm, ⟨13, _⟩ => ⟨S1x2048, .f32⟩
  | .hbm, ⟨14, _⟩ => ⟨S1x2048, .f32⟩
  | .hbm, ⟨15, _⟩ => ⟨S40960x2048, .f32⟩
  | .hbm, ⟨16, _⟩ => ⟨S40960x2048, .bf16⟩
  | .hbm, ⟨17, _⟩ => ⟨S16x40960, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x512, .f32⟩
  | .local _ .vmem, ⟨11, _⟩ => ⟨S1x2048x2048, .bf16⟩
  | .local _ .vmem, ⟨12, _⟩ => ⟨S1x2048, .f32⟩
  | .local _ .vmem, ⟨13, _⟩ => ⟨S1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S16x2048, .f32⟩
  | .local _ .vmem, ⟨19, _⟩ => ⟨S512x2048, .f32⟩
  | .local _ .vmem, ⟨20, _⟩ => ⟨S512x2048, .f32⟩
  | .local _ .vmem, ⟨21, _⟩ => ⟨S512x2048, .bf16⟩
  | .local _ .vmem, ⟨22, _⟩ => ⟨S512x2048, .bf16⟩
  | .local _ .vmem, ⟨23, _⟩ => ⟨S16x512, .f32⟩
  | .local _ .vmem, ⟨24, _⟩ => ⟨S16x512, .f32⟩
  | _, _ => ⟨S40960x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S40960x512 : Shape := ⟨2, ![40960, 512]⟩
abbrev S40960x1024 : Shape := ⟨2, ![40960, 1024]⟩
abbrev S40960x2048 : Shape := ⟨2, ![40960, 2048]⟩
abbrev S20x1x2048 : Shape := ⟨3, ![20, 1, 2048]⟩
abbrev S512 : Shape := ⟨1, ![512]⟩
abbrev S2x2048x2048 : Shape := ⟨3, ![2, 2048, 2048]⟩
abbrev S2048 : Shape := ⟨1, ![2048]⟩
abbrev S16x2048 : Shape := ⟨2, ![16, 2048]⟩
abbrev S_ : Shape := ⟨0, ![]⟩
abbrev S40960 : Shape := ⟨1, ![40960]⟩
abbrev S40960x1 : Shape := ⟨2, ![40960, 1]⟩
abbrev S1x512 : Shape := ⟨2, ![1, 512]⟩
abbrev S1x2048x2048 : Shape := ⟨3, ![1, 2048, 2048]⟩
abbrev S2048x2048 : Shape := ⟨2, ![2048, 2048]⟩
abbrev S20x2048x2048 : Shape := ⟨3, ![20, 2048, 2048]⟩
abbrev S1x2048 : Shape := ⟨2, ![1, 2048]⟩
abbrev S20x2048 : Shape := ⟨2, ![20, 2048]⟩
abbrev S20x2048x1 : Shape := ⟨3, ![20, 2048, 1]⟩
abbrev S1x1x2048 : Shape := ⟨3, ![1, 1, 2048]⟩
abbrev S2048x16 : Shape := ⟨2, ![2048, 16]⟩
abbrev S40960x16 : Shape := ⟨2, ![40960, 16]⟩
abbrev S16x40960 : Shape := ⟨2, ![16, 40960]⟩

abbrev nBuf : Space → Nat
  | .hbm => 99
  | .vmem => 0
  | .smem => 0
  | _ => 0

abbrev bufTy : (tb : Table) → Fin (tcTables nBuf tb) → BufTy
  | .hbm, ⟨0, _⟩ => ⟨S40960x512, .bf16⟩
  | .hbm, ⟨1, _⟩ => ⟨S40960x1024, .bf16⟩
  | .hbm, ⟨2, _⟩ => ⟨S40960x512, .f32⟩
  | .hbm, ⟨3, _⟩ => ⟨S40960x2048, .f32⟩
  | .hbm, ⟨4, _⟩ => ⟨S20x1x2048, .f32⟩
  | .hbm, ⟨5, _⟩ => ⟨S512, .f32⟩
  | .hbm, ⟨6, _⟩ => ⟨S2x2048x2048, .bf16⟩
  | .hbm, ⟨7, _⟩ => ⟨S2048, .f32⟩
  | .hbm, ⟨8, _⟩ => ⟨S2048, .f32⟩
  | .hbm, ⟨9, _⟩ => ⟨S20x1x2048, .f32⟩
  | .hbm, ⟨10, _⟩ => ⟨S20x1x2048, .f32⟩
  | .hbm, ⟨11, _⟩ => ⟨S16x2048, .f32⟩
  | .hbm, ⟨12, _⟩ => ⟨S40960x512, .f32⟩
  | .hbm, ⟨13, _⟩ => ⟨S_, .f32⟩
  | .hbm, ⟨14, _⟩ => ⟨S40960, .f32⟩
  | .hbm, ⟨15, _⟩ => ⟨S40960x1, .f32⟩
  | .hbm, ⟨16, _⟩ => ⟨S_, .f32⟩
  | .hbm, ⟨17, _⟩ => ⟨S40960x1, .f32⟩
  | .hbm, ⟨18, _⟩ => ⟨S40960x1, .f32⟩
  | .hbm, ⟨19, _⟩ => ⟨S_, .f32⟩
  | .hbm, ⟨20, _⟩ => ⟨S40960x1, .f32⟩
  | .hbm, ⟨21, _⟩ => ⟨S40960x1, .f32⟩
  | .hbm, ⟨22, _⟩ => ⟨S40960x1, .f32⟩
  | .hbm, ⟨23, _⟩ => ⟨S40960x512, .f32⟩
  | .hbm, ⟨24, _⟩ => ⟨S40960x512, .f32⟩
  | .hbm, ⟨25, _⟩ => ⟨S1x512, .f32⟩
  | .hbm, ⟨26, _⟩ => ⟨S40960x512, .f32⟩
  | .hbm, ⟨27, _⟩ => ⟨S40960x512, .f32⟩
  | .hbm, ⟨28, _⟩ => ⟨S40960x512, .f32⟩
  | .hbm, ⟨29, _⟩ => ⟨S40960x1024, .f32⟩
  | .hbm, ⟨30, _⟩ => ⟨S40960x2048, .f32⟩
  | .hbm, ⟨31, _⟩ => ⟨S1x2048x2048, .bf16⟩
  | .hbm, ⟨32, _⟩ => ⟨S2048x2048, .bf16⟩
  | .hbm, ⟨33, _⟩ => ⟨S2048x2048, .f32⟩
  | .hbm, ⟨34, _⟩ => ⟨S40960x2048, .f32⟩
  | .hbm, ⟨35, _⟩ => ⟨S20x2048x2048, .f32⟩
  | .hbm, ⟨36, _⟩ => ⟨S40960x2048, .f32⟩
  | .hbm, ⟨37, _⟩ => ⟨S_, .f32⟩
  | .hbm, ⟨38, _⟩ => ⟨S40960, .f32⟩
  | .hbm, ⟨39, _⟩ => ⟨S40960x1, .f32⟩
  | .hbm, ⟨40, _⟩ => ⟨S_, .f32⟩
  | .hbm, ⟨41, _⟩ => ⟨S40960x1, .f32⟩
  | .hbm, ⟨42, _⟩ => ⟨S40960x1, .f32⟩
  | .hbm, ⟨43, _⟩ => ⟨S_, .f32⟩
  | .hbm, ⟨44, _⟩ => ⟨S40960x1, .f32⟩
  | .hbm, ⟨45, _⟩ => ⟨S40960x1, .f32⟩
  | .hbm, ⟨46, _⟩ => ⟨S40960x1, .f32⟩
  | .hbm, ⟨47, _⟩ => ⟨S40960x2048, .f32⟩
  | .hbm, ⟨48, _⟩ => ⟨S40960x2048, .f32⟩
  | .hbm, ⟨49, _⟩ => ⟨S1x2048, .f32⟩
  | .hbm, ⟨50, _⟩ => ⟨S40960x2048, .f32⟩
  | .hbm, ⟨51, _⟩ => ⟨S40960x2048, .f32⟩
  | .hbm, ⟨52, _⟩ => ⟨S20x2048x2048, .f32⟩
  | .hbm, ⟨53, _⟩ => ⟨S20x2048x2048, .f32⟩
  | .hbm, ⟨54, _⟩ => ⟨S20x2048x2048, .f32⟩
  | .hbm, ⟨55, _⟩ => ⟨S20x2048x2048, .f32⟩
  | .hbm, ⟨56, _⟩ => ⟨S20x2048x2048, .f32⟩
  | .hbm, ⟨57, _⟩ => ⟨S_, .f32⟩
  | .hbm, ⟨58, _⟩ => ⟨S20x2048, .f32⟩
  | .hbm, ⟨59, _⟩ => ⟨S20x2048x1, .f32⟩
  | .hbm, ⟨60, _⟩ => ⟨S_, .f32⟩
  | .hbm, ⟨61, _⟩ => ⟨S20x2048x1, .f32⟩
  | .hbm, ⟨62, _⟩ => ⟨S20x2048x1, .f32⟩
  | .hbm, ⟨63, _⟩ => ⟨S_, .f32⟩
  | .hbm, ⟨64, _⟩ => ⟨S20x2048x1, .f32⟩
  | .hbm, ⟨65, _⟩ => ⟨S20x2048x1, .f32⟩
  | .hbm, ⟨66, _⟩ => ⟨S20x2048x1, .f32⟩
  | .hbm, ⟨67, _⟩ => ⟨S20x2048x2048, .f32⟩
  | .hbm, ⟨68, _⟩ => ⟨S20x2048x2048, .f32⟩
  | .hbm, ⟨69, _⟩ => ⟨S1x1x2048, .f32⟩
  | .hbm, ⟨70, _⟩ => ⟨S20x2048x2048, .f32⟩
  | .hbm, ⟨71, _⟩ => ⟨S20x2048x2048, .f32⟩
  | .hbm, ⟨72, _⟩ => ⟨S_, .f32⟩
  | .hbm, ⟨73, _⟩ => ⟨S20x1x2048, .f32⟩
  | .hbm, ⟨74, _⟩ => ⟨S20x1x2048, .f32⟩
  | .hbm, ⟨75, _⟩ => ⟨S20x2048x2048, .f32⟩
  | .hbm, ⟨76, _⟩ => ⟨S20x2048x2048, .f32⟩
  | .hbm, ⟨77, _⟩ => ⟨S20x2048x2048, .f32⟩
  | .hbm, ⟨78, _⟩ => ⟨S20x2048x2048, .f32⟩
  | .hbm, ⟨79, _⟩ => ⟨S40960x2048, .f32⟩
  | .hbm, ⟨80, _⟩ => ⟨S2048x16, .f32⟩
  | .hbm, ⟨81, _⟩ => ⟨S40960x16, .f32⟩
  | .hbm, ⟨82, _⟩ => ⟨S_, .f32⟩
  | .hbm, ⟨83, _⟩ => ⟨S40960, .f32⟩
  | .hbm, ⟨84, _⟩ => ⟨S_, .f32⟩
  | .hbm, ⟨85, _⟩ => ⟨S40960, .f32⟩
  | .hbm, ⟨86, _⟩ => ⟨S40960, .f32⟩
  | .hbm, ⟨87, _⟩ => ⟨S40960x1, .f32⟩
  | .hbm, ⟨88, _⟩ => ⟨S40960x16, .f32⟩
  | .hbm, ⟨89, _⟩ => ⟨S40960x16, .f32⟩
  | .hbm, ⟨90, _⟩ => ⟨S40960x16, .f32⟩
  | .hbm, ⟨91, _⟩ => ⟨S_, .f32⟩
  | .hbm, ⟨92, _⟩ => ⟨S40960, .f32⟩
  | .hbm, ⟨93, _⟩ => ⟨S40960x1, .f32⟩
  | .hbm, ⟨94, _⟩ => ⟨S40960x16, .f32⟩
  | .hbm, ⟨95, _⟩ => ⟨S40960x16, .f32⟩
  | .hbm, ⟨96, _⟩ => ⟨S40960x2048, .f32⟩
  | .hbm, ⟨97, _⟩ => ⟨S40960x2048, .bf16⟩
  | .hbm, ⟨98, _⟩ => ⟨S16x40960, .f32⟩
  | _, _ => ⟨S40960x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Kernel4.lean ====
abbrev S20x2048 : Shape := ⟨2, ![20, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x20x12288 : Shape := ⟨3, ![2, 20, 12288]⟩
abbrev S1x2048x1024 : Shape := ⟨3, ![1, 2048, 1024]⟩
abbrev S1x1x1024 : Shape := ⟨3, ![1, 1, 1024]⟩
abbrev S1x20x1024 : Shape := ⟨3, ![1, 20, 1024]⟩
abbrev S2048x1024 : Shape := ⟨2, ![2048, 1024]⟩
abbrev S20x1024 : Shape := ⟨2, ![20, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S20x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x20x12288, .f32⟩
  | .local _ .vmem, ⟨0, _⟩ => ⟨S20x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x20x1024, .f32⟩
  | .local _ .vmem, ⟨6, _⟩ => ⟨S1x20x1024, .f32⟩
  | _, _ => ⟨S20x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S20x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x20x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S20x2048 : Shape := ⟨2, ![20, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S20x12288 : Shape := ⟨2, ![20, 12288]⟩
abbrev S1x12288 : Shape := ⟨2, ![1, 12288]⟩
abbrev S12288 : Shape := ⟨1, ![12288]⟩
abbrev S1x20x12288 : Shape := ⟨3, ![1, 20, 12288]⟩
abbrev S2x20x12288 : Shape := ⟨3, ![2, 20, 12288]⟩

abbrev nBuf : Space → Nat
  | .hbm => 40
  | .vmem => 0
  | .smem => 0
  | _ => 0

abbrev bufTy : (tb : Table) → Fin (tcTables nBuf tb) → BufTy
  | .hbm, ⟨0, _⟩ => ⟨S20x2048, .f32⟩
  | .hbm, ⟨1, _⟩ => ⟨S2x2048x12288, .f32⟩
  | .hbm, ⟨2, _⟩ => ⟨S2x12288, .f32⟩
  | .hbm, ⟨3, _⟩ => ⟨S20x2048, .f32⟩
  | .hbm, ⟨4, _⟩ => ⟨S20x2048, .f32⟩
  | .hbm, ⟨5, _⟩ => ⟨S_, .f32⟩
  | .hbm, ⟨6, _⟩ => ⟨S20x2048, .f32⟩
  | .hbm, ⟨7, _⟩ => ⟨S20x2048, .f32⟩
  | .hbm, ⟨8, _⟩ => ⟨S_, .f32⟩
  | .hbm, ⟨9, _⟩ => ⟨S20x2048, .f32⟩
  | .hbm, ⟨10, _⟩ => ⟨S20x2048, .f32⟩
  | .hbm, ⟨11, _⟩ => ⟨S20x2048, .f32⟩
  | .hbm, ⟨12, _⟩ => ⟨S1x2048x12288, .f32⟩
  | .hbm, ⟨13, _⟩ => ⟨S2048x12288, .f32⟩
  | .hbm, ⟨14, _⟩ => ⟨S20x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S20x12288, .f32⟩
  | .hbm, ⟨19, _⟩ => ⟨S20x12288, .f32⟩
  | .hbm, ⟨20, _⟩ => ⟨S20x2048, .f32⟩
  | .hbm, ⟨21, _⟩ => ⟨S20x2048, .f32⟩
  | .hbm, ⟨22, _⟩ => ⟨S_, .f32⟩
  | .hbm, ⟨23, _⟩ => ⟨S20x2048, .f32⟩
  | .hbm, ⟨24, _⟩ => ⟨S20x2048, .f32⟩
  | .hbm, ⟨25, _⟩ => ⟨S_, .f32⟩
  | .hbm, ⟨26, _⟩ => ⟨S20x2048, .f32⟩
  | .hbm, ⟨27, _⟩ => ⟨S20x2048, .f32⟩
  | .hbm, ⟨28, _⟩ => ⟨S20x2048, .f32⟩
  | .hbm, ⟨29, _⟩ => ⟨S1x2048x12288, .f32⟩
  | .hbm, ⟨30, _⟩ => ⟨S2048x12288, .f32⟩
  | .hbm, ⟨31, _⟩ => ⟨S20x12288, .f32⟩
  | .hbm, ⟨32, _⟩ => ⟨S1x12288, .f32⟩
  | .hbm, ⟨33, _⟩ => ⟨S12288, .f32⟩
  | .hbm, ⟨34, _⟩ => ⟨S1x12288, .f32⟩
  | .hbm, ⟨35, _⟩ => ⟨S20x12288, .f32⟩
  | .hbm, ⟨36, _⟩ => ⟨S20x12288, .f32⟩
  | .hbm, ⟨37, _⟩ => ⟨S1x20x12288, .f32⟩
  | .hbm, ⟨38, _⟩ => ⟨S1x20x12288, .f32⟩
  | .hbm, ⟨39, _⟩ => ⟨S2x20x12288, .f32⟩
  | _, _ => ⟨S20x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel5.lean ====
abbrev S20x2048x2048 : Shape := ⟨3, ![20, 2048, 2048]⟩
abbrev S2048 : Shape := ⟨1, ![2048]⟩
abbrev S20x1x2048 : Shape := ⟨3, ![20, 1, 2048]⟩
abbrev S2x2048x6656 : Shape := ⟨3, ![2, 2048, 6656]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048 : Shape := ⟨2, ![1, 2048]⟩
abbrev S20x2048x3584 : Shape := ⟨3, ![20, 2048, 3584]⟩
abbrev S20x2048x3072 : Shape := ⟨3, ![20, 2048, 3072]⟩
abbrev S1x1024x2048 : Shape := ⟨3, ![1, 1024, 2048]⟩
abbrev S1x1x2048 : Shape := ⟨3, ![1, 1, 2048]⟩
abbrev S1x2048x512 : Shape := ⟨3, ![1, 2048, 512]⟩
abbrev S1024x128 : Shape := ⟨2, ![1024, 128]⟩
abbrev S1x1024x512 : Shape := ⟨3, ![1, 1024, 512]⟩
abbrev S1024x2048 : Shape := ⟨2, ![1024, 2048]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S2048x512 : Shape := ⟨2, ![2048, 512]⟩
abbrev S1024x512 : Shape := ⟨2, ![1024, 512]⟩
abbrev S1x1024x128 : Shape := ⟨3, ![1, 1024, 128]⟩

abbrev nBuf : Space → Nat
  | .hbm => 43
  | .vmem => 20
  | .smem => 0
  | _ => 0

abbrev bufTy : (tb : Table) → Fin (tcTables nBuf tb) → BufTy
  | .hbm, ⟨0, _⟩ => ⟨S20x2048x2048, .f32⟩
  | .hbm, ⟨1, _⟩ => ⟨S2048, .f32⟩
  | .hbm, ⟨2, _⟩ => ⟨S20x1x2048, .f32⟩
  | .hbm, ⟨3, _⟩ => ⟨S20x1x2048, .f32⟩
  | .hbm, ⟨4, _⟩ => ⟨S2x2048x6656, .bf16⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S2048, .f32⟩
  | .hbm, ⟨14, _⟩ => ⟨S2048x1, .f32⟩
  | .hbm, ⟨15, _⟩ => ⟨S1x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S_, .f32⟩
  | .hbm, ⟨22, _⟩ => ⟨S2048x48, .f32⟩
  | .hbm, ⟨23, _⟩ => ⟨S_, .f32⟩
  | .hbm, ⟨24, _⟩ => ⟨S2048x48, .f32⟩
  | .hbm, ⟨25, _⟩ => ⟨S_, .f32⟩
  | .hbm, ⟨26, _⟩ => ⟨S2048x8, .f32⟩
  | .hbm, ⟨27, _⟩ => ⟨S2048x64, .f32⟩
  | .hbm, ⟨28, _⟩ => ⟨S1x2048x1x64, .f32⟩
  | .hbm, ⟨29, _⟩ => ⟨S1x2048x2x64, .f32⟩
  | .hbm, ⟨30, _⟩ => ⟨S2048x128, .f32⟩
  | .hbm, ⟨31, _⟩ => ⟨S2048x8, .f32⟩
  | .hbm, ⟨32, _⟩ => ⟨S2048x64, .f32⟩
  | .hbm, ⟨33, _⟩ => ⟨S1x2048x1x64, .f32⟩
  | .hbm, ⟨34, _⟩ => ⟨S1x2048x2x64, .f32⟩
  | .hbm, ⟨35, _⟩ => ⟨S2048x128, .f32⟩
  | .hbm, ⟨36, _⟩ => ⟨S2048x64, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S1x2048, .f32⟩
  | .hbm, ⟨41, _⟩ => ⟨S20x2048x3584, .f32⟩
  | .hbm, ⟨42, _⟩ => ⟨S20x2048x3072, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .bf16⟩
  | .local _ .vmem, ⟨18, _⟩ => ⟨S1x1024x512, .bf16⟩
  | .local _ .vmem, ⟨19, _⟩ => ⟨S1024x2048, .bf16⟩
  | _, _ => ⟨S20x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![40, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c8_i32 : BitVec 32 := 8#32
  let v21 : BitVec 32 := Scalar.addi c0_i32_9 c8_i32
  let c1_i32 : BitVec 32 := 1#32
  ⟨c0_i32_9, v21, c1_i32⟩
def k0_mult1 (k0_t1 : Fin k0_t1_loop.trips) : BitVec 32 :=
  let c0_i32_9 : BitVec 32 := 0#32
  let c1_i32 : BitVec 32 := 1#32
  let arg13 : BitVec 32 := Scf.iv c0_i32_9 c1_i32 k0_t1
  let c128_i32 : BitVec 32 := 128#32
  let v22 : BitVec 32 := Scalar.muli arg13 c128_i32
  v22
def k0_off1 (k0_t1 : Fin k0_t1_loop.trips) : Fin 3 → Nat :=
  let c0_11 : Index := 0#32
  let c0_i32_9 : BitVec 32 := 0#32
  let c1_i32 : BitVec 32 := 1#32
  let arg13 : BitVec 32 := Scf.iv c0_i32_9 c1_i32 k0_t1
  let c128_i32 : BitVec 32 := 128#32
  let v22 : BitVec 32 := Scalar.muli arg13 c128_i32
  let v23 : BitVec 32 := v22
  let v24 : Index := Scalar.indexCast v23
  let c0_12 : Index := 0#32
  ![0, v24.toNat, 0]
def k0_off2 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c128_i32 : BitVec 32 := 128#32
  let v22 : BitVec 32 := Scalar.muli arg13 c128_i32
  let v23 : BitVec 32 := v22
  let v52 : Index := Scalar.indexCast v23
  let c0_25 : Index := 0#32
  ![v52.toNat, 0]
def k0_cond2 (i : grid0.Coords) : BitVec 1 :=
  let arg1 : BitVec 32 := BitVec.ofNat 32 (i 1).val
  let c5_i32 : BitVec 32 := 5#32
  let v7 : BitVec 1 := Scalar.cmpi .sge arg1 c5_i32
  let c11_i32 : BitVec 32 := 11#32
  let v8 : BitVec 1 := Scalar.cmpi .slt arg1 c11_i32
  let v9 : BitVec 1 := Scalar.andi v7 v8
  let v_true : BitVec 1 := 1#1
  let v10 : BitVec 1 := Scalar.xori v9 v_true
  let v11 : BitVec 32 := Scalar.extui v10
  let c0_i32_5 : BitVec 32 := 0#32
  let v12 : BitVec 1 := Scalar.cmpi .ne v11 c0_i32_5
  v12

def k0_cond3 (i : grid0.Coords) : BitVec 1 :=
  let arg1 : BitVec 32 := BitVec.ofNat 32 (i 1).val
  let c5_i32 : BitVec 32 := 5#32
  let v7 : BitVec 1 := Scalar.cmpi .sge arg1 c5_i32
  let c11_i32 : BitVec 32 := 11#32
  let v8 : BitVec 1 := Scalar.cmpi .slt arg1 c11_i32
  let v9 : BitVec 1 := Scalar.andi v7 v8
  let c9_i32 : BitVec 32 := 9#32
  let v13 : BitVec 1 := Scalar.cmpi .slt arg1 c9_i32
  let v14 : BitVec 1 := Scalar.andi v9 v13
  let v15 : BitVec 32 := Scalar.extui v14
  let c0_i32_6 : BitVec 32 := 0#32
  let v16 : BitVec 1 := Scalar.cmpi .ne v15 c0_i32_6
  v16

def k0_cond4 (i : grid0.Coords) : BitVec 1 :=
  let arg1 : BitVec 32 := BitVec.ofNat 32 (i 1).val
  let c5_i32 : BitVec 32 := 5#32
  let v7 : BitVec 1 := Scalar.cmpi .sge arg1 c5_i32
  let c11_i32 : BitVec 32 := 11#32
  let v8 : BitVec 1 := Scalar.cmpi .slt arg1 c11_i32
  let v9 : BitVec 1 := Scalar.andi v7 v8
  let c9_i32_7 : BitVec 32 := 9#32
  let v17 : BitVec 1 := Scalar.cmpi .sge arg1 c9_i32_7
  let v18 : BitVec 1 := Scalar.andi v9 v17
  let v19 : BitVec 32 := Scalar.extui v18
  let c0_i32_8 : BitVec 32 := 0#32
  let v20 : BitVec 1 := Scalar.cmpi .ne v19 c0_i32_8
  v20

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let v27 : BitVec 1 := Scalar.cmpi .slt arg1 c5_i32
  let c6_i32 : BitVec 32 := 6#32
  let v28 : BitVec 32 := Scalar.subi arg1 c6_i32
  let c4_i32 : BitVec 32 := 4#32
  let v29 : BitVec 32 := Scalar.maxsi v28 c4_i32
  let v30 : BitVec 32 := Scalar.select v27 arg1 v29
  let c0_i32_10 : BitVec 32 := 0#32
  ![v16.toNat, v26.toNat, v30.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let v27 : BitVec 32 := Scalar.subi arg1 c5_i32
  let c0_i32_10 : BitVec 32 := 0#32
  let c5_i32_11 : BitVec 32 := 5#32
  let v28 : BitVec 32 := Scalar.maxsi c0_i32_10 v27
  let v29 : BitVec 32 := Scalar.minsi c5_i32_11 v28
  let c0_i32_12 : BitVec 32 := 0#32
  ![v16.toNat, v26.toNat, v29.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S20x2048x2048 : Shape := ⟨3, ![20, 2048, 2048]⟩
abbrev S2048 : Shape := ⟨1, ![2048]⟩
abbrev S20x1x2048 : Shape := ⟨3, ![20, 1, 2048]⟩
abbrev S2x2048x6656 : Shape := ⟨3, ![2, 2048, 6656]⟩
abbrev S_ : Shape := ⟨0, ![]⟩
abbrev S20x2048 : Shape := ⟨2, ![20, 2048]⟩
abbrev S20x2048x1 : Shape := ⟨3, ![20, 2048, 1]⟩
abbrev S1x1x2048 : Shape := ⟨3, ![1, 1, 2048]⟩
abbrev S1x2048x6656 : Shape := ⟨3, ![1, 2048, 6656]⟩
abbrev S2048x6656 : Shape := ⟨2, ![2048, 6656]⟩
abbrev S20x2048x6656 : Shape := ⟨3, ![20, 2048, 6656]⟩
abbrev S20x2048x1024 : Shape := ⟨3, ![20, 2048, 1024]⟩
abbrev S20x2048x8x2x64 : Shape := ⟨5, ![20, 2048, 8, 2, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x1x8 : Shape := ⟨5, ![1, 2048, 1, 1, 8]⟩
abbrev S20x2048x8x2x8 : Shape := ⟨5, ![20, 2048, 8, 2, 8]⟩
abbrev S20x2048x8x2x48 : Shape := ⟨5, ![20, 2048, 8, 2, 48]⟩
abbrev S20x2048x2560 : Shape := ⟨3, ![20, 2048, 2560]⟩
abbrev S20x2048x3584 : Shape := ⟨3, ![20, 2048, 3584]⟩
abbrev S20x2048x3072 : Shape := ⟨3, ![20, 2048, 3072]⟩

abbrev nBuf : Space → Nat
  | .hbm => 111
  | .vmem => 0
  | .smem => 0
  | _ => 0

abbrev bufTy : (tb : Table) → Fin (tcTables nBuf tb) → BufTy
  | .hbm, ⟨0, _⟩ => ⟨S20x2048x2048, .f32⟩
  | .hbm, ⟨1, _⟩ => ⟨S2048, .f32⟩
  | .hbm, ⟨2, _⟩ => ⟨S20x1x2048, .f32⟩
  | .hbm, ⟨3, _⟩ => ⟨S20x1x2048, .f32⟩
  | .hbm, ⟨4, _⟩ => ⟨S2x2048x6656, .bf16⟩
  | .hbm, ⟨5, _⟩ => ⟨S20x2048x2048, .f32⟩
  | .hbm, ⟨6, _⟩ => ⟨S_, .f32⟩
  | .hbm, ⟨7, _⟩ => ⟨S20x2048, .f32⟩
  | .hbm, ⟨8, _⟩ => ⟨S20x2048x1, .f32⟩
  | .hbm, ⟨9, _⟩ => ⟨S_, .f32⟩
  | .hbm, ⟨10, _⟩ => ⟨S20x2048x1, .f32⟩
  | .hbm, ⟨11, _⟩ => ⟨S20x2048x1, .f32⟩
  | .hbm, ⟨12, _⟩ => ⟨S_, .f32⟩
  | .hbm, ⟨13, _⟩ => ⟨S20x2048x1, .f32⟩
  | .hbm, ⟨14, _⟩ => ⟨S20x2048x1, .f32⟩
  | .hbm, ⟨15, _⟩ => ⟨S20x2048x1, .f32⟩
  | .hbm, ⟨16, _⟩ => ⟨S20x2048x2048, .f32⟩
  | .hbm, ⟨17, _⟩ => ⟨S20x2048x2048, .f32⟩
  | .hbm, ⟨18, _⟩ => ⟨S1x1x2048, .f32⟩
  | .hbm, ⟨19, _⟩ => ⟨S20x2048x2048, .f32⟩
  | .hbm, ⟨20, _⟩ => ⟨S20x2048x2048, .f32⟩
  | .hbm, ⟨21, _⟩ => ⟨S_, .f32⟩
  | .hbm, ⟨22, _⟩ => ⟨S20x1x2048, .f32⟩
  | .hbm, ⟨23, _⟩ => ⟨S20x1x2048, .f32⟩
  | .hbm, ⟨24, _⟩ => ⟨S20x2048x2048, .f32⟩
  | .hbm, ⟨25, _⟩ => ⟨S20x2048x2048, .f32⟩
  | .hbm, ⟨26, _⟩ => ⟨S20x2048x2048, .f32⟩
  | .hbm, ⟨27, _⟩ => ⟨S20x2048x2048, .f32⟩
  | .hbm, ⟨28, _⟩ => ⟨S1x2048x6656, .bf16⟩
  | .hbm, ⟨29, _⟩ => ⟨S2048x6656, .bf16⟩
  | .hbm, ⟨30, _⟩ => ⟨S2048x6656, .f32⟩
  | .hbm, ⟨31, _⟩ => ⟨S20x2048x6656, .f32⟩
  | .hbm, ⟨32, _⟩ => ⟨S20x2048x1024, .f32⟩
  | .hbm, ⟨33, _⟩ => ⟨S20x2048x8x2x64, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S2048, .f32⟩
  | .hbm, ⟨43, _⟩ => ⟨S2048x1, .f32⟩
  | .hbm, ⟨44, _⟩ => ⟨S1x8, .f32⟩
  | .hbm, ⟨45, _⟩ => ⟨S2048x8, .f32⟩
  | .hbm, ⟨46, _⟩ => ⟨S2048x8, .f32⟩
  | .hbm, ⟨47, _⟩ => ⟨S2048x8, .f32⟩
  | .hbm, ⟨48, _⟩ => ⟨S2048x8, .f32⟩
  | .hbm, ⟨49, _⟩ => ⟨S1x2048x1x1x8, .f32⟩
  | .hbm, ⟨50, _⟩ => ⟨S2048x8, .f32⟩
  | .hbm, ⟨51, _⟩ => ⟨S1x2048x1x1x8, .f32⟩
  | .hbm, ⟨52, _⟩ => ⟨S20x2048x8x2x8, .f32⟩
  | .hbm, ⟨53, _⟩ => ⟨S20x2048x8x2x8, .f32⟩
  | .hbm, ⟨54, _⟩ => ⟨S20x2048x8x2x8, .f32⟩
  | .hbm, ⟨55, _⟩ => ⟨S20x2048x8x2x8, .f32⟩
  | .hbm, ⟨56, _⟩ => ⟨S20x2048x8x2x8, .f32⟩
  | .hbm, ⟨57, _⟩ => ⟨S20x2048x8x2x8, .f32⟩
  | .hbm, ⟨58, _⟩ => ⟨S20x2048x8x2x8, .f32⟩
  | .hbm, ⟨59, _⟩ => ⟨S20x2048x8x2x8, .f32⟩
  | .hbm, ⟨60, _⟩ => ⟨S20x2048x8x2x8, .f32⟩
  | .hbm, ⟨61, _⟩ => ⟨S20x2048x8x2x8, .f32⟩
  | .hbm, ⟨62, _⟩ => ⟨S20x2048x8x2x8, .f32⟩
  | .hbm, ⟨63, _⟩ => ⟨S20x2048x8x2x8, .f32⟩
  | .hbm, ⟨64, _⟩ => ⟨S20x2048x8x2x48, .f32⟩
  | .hbm, ⟨65, _⟩ => ⟨S20x2048x8x2x64, .f32⟩
  | .hbm, ⟨66, _⟩ => ⟨S20x2048x1024, .f32⟩
  | .hbm, ⟨67, _⟩ => ⟨S20x2048x1024, .f32⟩
  | .hbm, ⟨68, _⟩ => ⟨S20x2048x8x2x64, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S2048, .f32⟩
  | .hbm, ⟨78, _⟩ => ⟨S2048x1, .f32⟩
  | .hbm, ⟨79, _⟩ => ⟨S1x8, .f32⟩
  | .hbm, ⟨80, _⟩ => ⟨S2048x8, .f32⟩
  | .hbm, ⟨81, _⟩ => ⟨S2048x8, .f32⟩
  | .hbm, ⟨82, _⟩ => ⟨S2048x8, .f32⟩
  | .hbm, ⟨83, _⟩ => ⟨S2048x8, .f32⟩
  | .hbm, ⟨84, _⟩ => ⟨S1x2048x1x1x8, .f32⟩
  | .hbm, ⟨85, _⟩ => ⟨S2048x8, .f32⟩
  | .hbm, ⟨86, _⟩ => ⟨S1x2048x1x1x8, .f32⟩
  | .hbm, ⟨87, _⟩ => ⟨S20x2048x8x2x8, .f32⟩
  | .hbm, ⟨88, _⟩ => ⟨S20x2048x8x2x8, .f32⟩
  | .hbm, ⟨89, _⟩ => ⟨S20x2048x8x2x8, .f32⟩
  | .hbm, ⟨90, _⟩ => ⟨S20x2048x8x2x8, .f32⟩
  | .hbm, ⟨91, _⟩ => ⟨S20x2048x8x2x8, .f32⟩
  | .hbm, ⟨92, _⟩ => ⟨S20x2048x8x2x8, .f32⟩
  | .hbm, ⟨93, _⟩ => ⟨S20x2048x8x2x8, .f32⟩
  | .hbm, ⟨94, _⟩ => ⟨S20x2048x8x2x8, .f32⟩
  | .hbm, ⟨95, _⟩ => ⟨S20x2048x8x2x8, .f32⟩
  | .hbm, ⟨96, _⟩ => ⟨S20x2048x8x2x8, .f32⟩
  | .hbm, ⟨97, _⟩ => ⟨S20x2048x8x2x8, .f32⟩
  | .hbm, ⟨98, _⟩ => ⟨S20x2048x8x2x8, .f32⟩
  | .hbm, ⟨99, _⟩ => ⟨S20x2048x8x2x48, .f32⟩
  | .hbm, ⟨100, _⟩ => ⟨S20x2048x8x2x64, .f32⟩
  | .hbm, ⟨101, _⟩ => ⟨S20x2048x1024, .f32⟩
  | .hbm, ⟨102, _⟩ => ⟨S20x2048x1024, .f32⟩
  | .hbm, ⟨103, _⟩ => ⟨S_, .f32⟩
  | .hbm, ⟨104, _⟩ => ⟨S20x2048x1024, .f32⟩
  | .hbm, ⟨105, _⟩ => ⟨S20x2048x1024, .f32⟩
  | .hbm, ⟨106, _⟩ => ⟨S20x2048x2560, .f32⟩
  | .hbm, ⟨107, _⟩ => ⟨S20x2048x1024, .f32⟩
  | .hbm, ⟨108, _⟩ => ⟨S20x2048x3584, .f32⟩
  | .hbm, ⟨109, _⟩ => ⟨S20x2048x3072, .f32⟩
  | .hbm, ⟨110, _⟩ => ⟨S20x2048x3072, .bf16⟩
  | _, _ => ⟨S20x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_5 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_7 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩

abbrev nD : Nat := 1
abbrev τ : Topo := Topo.v7x

variable {F : FTy → Type} [FloatOps F]
-- ==== Kernel6.lean ====
abbrev S40960x512 : Shape := ⟨2, ![40960, 512]⟩
abbrev S40960x1024 : Shape := ⟨2, ![40960, 1024]⟩
abbrev S40960x2048 : Shape := ⟨2, ![40960, 2048]⟩
abbrev S20x1x2048 : Shape := ⟨3, ![20, 1, 2048]⟩
abbrev S512 : Shape := ⟨1, ![512]⟩
abbrev S2x2048x2048 : Shape := ⟨3, ![2, 2048, 2048]⟩
abbrev S2048 : Shape := ⟨1, ![2048]⟩
abbrev S16x2048 : Shape := ⟨2, ![16, 2048]⟩
abbrev S1x512 : Shape := ⟨2, ![1, 512]⟩
abbrev S1x2048 : Shape := ⟨2, ![1, 2048]⟩
abbrev S16x40960 : Shape := ⟨2, ![16, 40960]⟩
abbrev S512x512 : Shape := ⟨2, ![512, 512]⟩
abbrev S512x1024 : Shape := ⟨2, ![512, 1024]⟩
abbrev S512x2048 : Shape := ⟨2, ![512, 2048]⟩
abbrev S1x1x2048 : Shape := ⟨3, ![1, 1, 2048]⟩
abbrev S1x2048x2048 : Shape := ⟨3, ![1, 2048, 2048]⟩
abbrev S16x512 : Shape := ⟨2, ![16, 512]⟩
abbrev S512x1 : Shape := ⟨2, ![512, 1]⟩
abbrev S2048x2048 : Shape := ⟨2, ![2048, 2048]⟩

abbrev nBuf : Space → Nat
  | .hbm => 18
  | .vmem => 25
  | .smem => 0
  | _ => 0

abbrev bufTy : (tb : Table) → Fin (tcTables nBuf tb) → BufTy
  | .hbm, ⟨0, _⟩ => ⟨S40960x512, .bf16⟩
  | .hbm, ⟨1, _⟩ => ⟨S40960x1024, .bf16⟩
  | .hbm, ⟨2, _⟩ => ⟨S40960x512, .f32⟩
  | .hbm, ⟨3, _⟩ => ⟨S40960x2048, .f32⟩
  | .hbm, ⟨4, _⟩ => ⟨S20x1x2048, .f32⟩
  | .hbm, ⟨5, _⟩ => ⟨S512, .f32⟩
  | .hbm, ⟨6, _⟩ => ⟨S2x2048x2048, .bf16⟩
  | .hbm, ⟨7, _⟩ => ⟨S2048, .f32⟩
  | .hbm, ⟨8, _⟩ => ⟨S2048, .f32⟩
  | .hbm, ⟨9, _⟩ => ⟨S20x1x2048, .f32⟩
  | .hbm, ⟨10, _⟩ => ⟨S20x1x2048, .f32⟩
  | .hbm, ⟨11, _⟩ => ⟨S16x2048, .f32⟩
  | .hbm, ⟨12, _⟩ => ⟨S1x512, .f32⟩
  | .hbm, ⟨13, _⟩ => ⟨S1x2048, .f32⟩
  | .hbm, ⟨14, _⟩ => ⟨S1x2048, .f32⟩
  | .hbm, ⟨15, _⟩ => ⟨S40960x2048, .f32⟩
  | .hbm, ⟨16, _⟩ => ⟨S40960x2048, .bf16⟩
  | .hbm, ⟨17, _⟩ => ⟨S16x40960, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x512, .f32⟩
  | .local _ .vmem, ⟨11, _⟩ => ⟨S1x2048x2048, .bf16⟩
  | .local _ .vmem, ⟨12, _⟩ => ⟨S1x2048, .f32⟩
  | .local _ .vmem, ⟨13, _⟩ => ⟨S1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S16x2048, .f32⟩
  | .local _ .vmem, ⟨19, _⟩ => ⟨S512x2048, .f32⟩
  | .local _ .vmem, ⟨20, _⟩ => ⟨S512x2048, .f32⟩
  | .local _ .vmem, ⟨21, _⟩ => ⟨S512x2048, .bf16⟩
  | .local _ .vmem, ⟨22, _⟩ => ⟨S512x2048, .bf16⟩
  | .local _ .vmem, ⟨23, _⟩ => ⟨S16x512, .f32⟩
  | .local _ .vmem, ⟨24, _⟩ => ⟨S16x512, .f32⟩
  | _, _ => ⟨S40960x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S40960x512 : Shape := ⟨2, ![40960, 512]⟩
abbrev S40960x1024 : Shape := ⟨2, ![40960, 1024]⟩
abbrev S40960x2048 : Shape := ⟨2, ![40960, 2048]⟩
abbrev S20x1x2048 : Shape := ⟨3, ![20, 1, 2048]⟩
abbrev S512 : Shape := ⟨1, ![512]⟩
abbrev S2x2048x2048 : Shape := ⟨3, ![2, 2048, 2048]⟩
abbrev S2048 : Shape := ⟨1, ![2048]⟩
abbrev S16x2048 : Shape := ⟨2, ![16, 2048]⟩
abbrev S_ : Shape := ⟨0, ![]⟩
abbrev S40960 : Shape := ⟨1, ![40960]⟩
abbrev S40960x1 : Shape := ⟨2, ![40960, 1]⟩
abbrev S1x512 : Shape := ⟨2, ![1, 512]⟩
abbrev S1x2048x2048 : Shape := ⟨3, ![1, 2048, 2048]⟩
abbrev S2048x2048 : Shape := ⟨2, ![2048, 2048]⟩
abbrev S20x2048x2048 : Shape := ⟨3, ![20, 2048, 2048]⟩
abbrev S1x2048 : Shape := ⟨2, ![1, 2048]⟩
abbrev S20x2048 : Shape := ⟨2, ![20, 2048]⟩
abbrev S20x2048x1 : Shape := ⟨3, ![20, 2048, 1]⟩
abbrev S1x1x2048 : Shape := ⟨3, ![1, 1, 2048]⟩
abbrev S2048x16 : Shape := ⟨2, ![2048, 16]⟩
abbrev S40960x16 : Shape := ⟨2, ![40960, 16]⟩
abbrev S16x40960 : Shape := ⟨2, ![16, 40960]⟩

abbrev nBuf : Space → Nat
  | .hbm => 99
  | .vmem => 0
  | .smem => 0
  | _ => 0

abbrev bufTy : (tb : Table) → Fin (tcTables nBuf tb) → BufTy
  | .hbm, ⟨0, _⟩ => ⟨S40960x512, .bf16⟩
  | .hbm, ⟨1, _⟩ => ⟨S40960x1024, .bf16⟩
  | .hbm, ⟨2, _⟩ => ⟨S40960x512, .f32⟩
  | .hbm, ⟨3, _⟩ => ⟨S40960x2048, .f32⟩
  | .hbm, ⟨4, _⟩ => ⟨S20x1x2048, .f32⟩
  | .hbm, ⟨5, _⟩ => ⟨S512, .f32⟩
  | .hbm, ⟨6, _⟩ => ⟨S2x2048x2048, .bf16⟩
  | .hbm, ⟨7, _⟩ => ⟨S2048, .f32⟩
  | .hbm, ⟨8, _⟩ => ⟨S2048, .f32⟩
  | .hbm, ⟨9, _⟩ => ⟨S20x1x2048, .f32⟩
  | .hbm, ⟨10, _⟩ => ⟨S20x1x2048, .f32⟩
  | .hbm, ⟨11, _⟩ => ⟨S16x2048, .f32⟩
  | .hbm, ⟨12, _⟩ => ⟨S40960x512, .f32⟩
  | .hbm, ⟨13, _⟩ => ⟨S_, .f32⟩
  | .hbm, ⟨14, _⟩ => ⟨S40960, .f32⟩
  | .hbm, ⟨15, _⟩ => ⟨S40960x1, .f32⟩
  | .hbm, ⟨16, _⟩ => ⟨S_, .f32⟩
  | .hbm, ⟨17, _⟩ => ⟨S40960x1, .f32⟩
  | .hbm, ⟨18, _⟩ => ⟨S40960x1, .f32⟩
  | .hbm, ⟨19, _⟩ => ⟨S_, .f32⟩
  | .hbm, ⟨20, _⟩ => ⟨S40960x1, .f32⟩
  | .hbm, ⟨21, _⟩ => ⟨S40960x1, .f32⟩
  | .hbm, ⟨22, _⟩ => ⟨S40960x1, .f32⟩
  | .hbm, ⟨23, _⟩ => ⟨S40960x512, .f32⟩
  | .hbm, ⟨24, _⟩ => ⟨S40960x512, .f32⟩
  | .hbm, ⟨25, _⟩ => ⟨S1x512, .f32⟩
  | .hbm, ⟨26, _⟩ => ⟨S40960x512, .f32⟩
  | .hbm, ⟨27, _⟩ => ⟨S40960x512, .f32⟩
  | .hbm, ⟨28, _⟩ => ⟨S40960x512, .f32⟩
  | .hbm, ⟨29, _⟩ => ⟨S40960x1024, .f32⟩
  | .hbm, ⟨30, _⟩ => ⟨S40960x2048, .f32⟩
  | .hbm, ⟨31, _⟩ => ⟨S1x2048x2048, .bf16⟩
  | .hbm, ⟨32, _⟩ => ⟨S2048x2048, .bf16⟩
  | .hbm, ⟨33, _⟩ => ⟨S2048x2048, .f32⟩
  | .hbm, ⟨34, _⟩ => ⟨S40960x2048, .f32⟩
  | .hbm, ⟨35, _⟩ => ⟨S20x2048x2048, .f32⟩
  | .hbm, ⟨36, _⟩ => ⟨S40960x2048, .f32⟩
  | .hbm, ⟨37, _⟩ => ⟨S_, .f32⟩
  | .hbm, ⟨38, _⟩ => ⟨S40960, .f32⟩
  | .hbm, ⟨39, _⟩ => ⟨S40960x1, .f32⟩
  | .hbm, ⟨40, _⟩ => ⟨S_, .f32⟩
  | .hbm, ⟨41, _⟩ => ⟨S40960x1, .f32⟩
  | .hbm, ⟨42, _⟩ => ⟨S40960x1, .f32⟩
  | .hbm, ⟨43, _⟩ => ⟨S_, .f32⟩
  | .hbm, ⟨44, _⟩ => ⟨S40960x1, .f32⟩
  | .hbm, ⟨45, _⟩ => ⟨S40960x1, .f32⟩
  | .hbm, ⟨46, _⟩ => ⟨S40960x1, .f32⟩
  | .hbm, ⟨47, _⟩ => ⟨S40960x2048, .f32⟩
  | .hbm, ⟨48, _⟩ => ⟨S40960x2048, .f32⟩
  | .hbm, ⟨49, _⟩ => ⟨S1x2048, .f32⟩
  | .hbm, ⟨50, _⟩ => ⟨S40960x2048, .f32⟩
  | .hbm, ⟨51, _⟩ => ⟨S40960x2048, .f32⟩
  | .hbm, ⟨52, _⟩ => ⟨S20x2048x2048, .f32⟩
  | .hbm, ⟨53, _⟩ => ⟨S20x2048x2048, .f32⟩
  | .hbm, ⟨54, _⟩ => ⟨S20x2048x2048, .f32⟩
  | .hbm, ⟨55, _⟩ => ⟨S20x2048x2048, .f32⟩
  | .hbm, ⟨56, _⟩ => ⟨S20x2048x2048, .f32⟩
  | .hbm, ⟨57, _⟩ => ⟨S_, .f32⟩
  | .hbm, ⟨58, _⟩ => ⟨S20x2048, .f32⟩
  | .hbm, ⟨59, _⟩ => ⟨S20x2048x1, .f32⟩
  | .hbm, ⟨60, _⟩ => ⟨S_, .f32⟩
  | .hbm, ⟨61, _⟩ => ⟨S20x2048x1, .f32⟩
  | .hbm, ⟨62, _⟩ => ⟨S20x2048x1, .f32⟩
  | .hbm, ⟨63, _⟩ => ⟨S_, .f32⟩
  | .hbm, ⟨64, _⟩ => ⟨S20x2048x1, .f32⟩
  | .hbm, ⟨65, _⟩ => ⟨S20x2048x1, .f32⟩
  | .hbm, ⟨66, _⟩ => ⟨S20x2048x1, .f32⟩
  | .hbm, ⟨67, _⟩ => ⟨S20x2048x2048, .f32⟩
  | .hbm, ⟨68, _⟩ => ⟨S20x2048x2048, .f32⟩
  | .hbm, ⟨69, _⟩ => ⟨S1x1x2048, .f32⟩
  | .hbm, ⟨70, _⟩ => ⟨S20x2048x2048, .f32⟩
  | .hbm, ⟨71, _⟩ => ⟨S20x2048x2048, .f32⟩
  | .hbm, ⟨72, _⟩ => ⟨S_, .f32⟩
  | .hbm, ⟨73, _⟩ => ⟨S20x1x2048, .f32⟩
  | .hbm, ⟨74, _⟩ => ⟨S20x1x2048, .f32⟩
  | .hbm, ⟨75, _⟩ => ⟨S20x2048x2048, .f32⟩
  | .hbm, ⟨76, _⟩ => ⟨S20x2048x2048, .f32⟩
  | .hbm, ⟨77, _⟩ => ⟨S20x2048x2048, .f32⟩
  | .hbm, ⟨78, _⟩ => ⟨S20x2048x2048, .f32⟩
  | .hbm, ⟨79, _⟩ => ⟨S40960x2048, .f32⟩
  | .hbm, ⟨80, _⟩ => ⟨S2048x16, .f32⟩
  | .hbm, ⟨81, _⟩ => ⟨S40960x16, .f32⟩
  | .hbm, ⟨82, _⟩ => ⟨S_, .f32⟩
  | .hbm, ⟨83, _⟩ => ⟨S40960, .f32⟩
  | .hbm, ⟨84, _⟩ => ⟨S_, .f32⟩
  | .hbm, ⟨85, _⟩ => ⟨S40960, .f32⟩
  | .hbm, ⟨86, _⟩ => ⟨S40960, .f32⟩
  | .hbm, ⟨87, _⟩ => ⟨S40960x1, .f32⟩
  | .hbm, ⟨88, _⟩ => ⟨S40960x16, .f32⟩
  | .hbm, ⟨89, _⟩ => ⟨S40960x16, .f32⟩
  | .hbm, ⟨90, _⟩ => ⟨S40960x16, .f32⟩
  | .hbm, ⟨91, _⟩ => ⟨S_, .f32⟩
  | .hbm, ⟨92, _⟩ => ⟨S40960, .f32⟩
  | .hbm, ⟨93, _⟩ => ⟨S40960x1, .f32⟩
  | .hbm, ⟨94, _⟩ => ⟨S40960x16, .f32⟩
  | .hbm, ⟨95, _⟩ => ⟨S40960x16, .f32⟩
  | .hbm, ⟨96, _⟩ => ⟨S40960x2048, .f32⟩
  | .hbm, ⟨97, _⟩ => ⟨S40960x2048, .bf16⟩
  | .hbm, ⟨98, _⟩ => ⟨S16x40960, .f32⟩
  | _, _ => ⟨S40960x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Kernel7.lean ====
abbrev S2x2048x6656 : Shape := ⟨3, ![2, 2048, 6656]⟩
abbrev S4096x6656 : Shape := ⟨2, ![4096, 6656]⟩
abbrev S256x6656 : Shape := ⟨2, ![256, 6656]⟩

abbrev nBuf : Space → Nat
  | .hbm => 3
  | .vmem => 4
  | .smem => 0
  | _ => 0

abbrev bufTy : (tb : Table) → Fin (tcTables nBuf tb) → BufTy
  | .hbm, ⟨0, _⟩ => ⟨S2x2048x6656, .f32⟩
  | .hbm, ⟨1, _⟩ => ⟨S4096x6656, .f32⟩
  | .hbm, ⟨2, _⟩ => ⟨S4096x6656, .bf16⟩
  | .local _ .vmem, ⟨0, _⟩ => ⟨S256x6656, .f32⟩
  | .local _ .vmem, ⟨1, _⟩ => ⟨S256x6656, .f32⟩
  | .local _ .vmem, ⟨2, _⟩ => ⟨S256x6656, .bf16⟩
  | .local _ .vmem, ⟨3, _⟩ => ⟨S256x6656, .bf16⟩
  | _, _ => ⟨S2x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6656 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6656 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S2x2048x6656 : Shape := ⟨3, ![2, 2048, 6656]⟩
abbrev S4096x6656 : Shape := ⟨2, ![4096, 6656]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x6656, .f32⟩
  | .hbm, ⟨1, _⟩ => ⟨S2x2048x6656, .bf16⟩
  | .hbm, ⟨2, _⟩ => ⟨S4096x6656, .bf16⟩
  | _, _ => ⟨S2x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel8.lean ====
abbrev S2x2048x2048 : Shape := ⟨3, ![2, 2048, 2048]⟩
abbrev S4096x2048 : Shape := ⟨2, ![4096, 2048]⟩
abbrev S1024x2048 : Shape := ⟨2, ![1024, 2048]⟩

abbrev nBuf : Space → Nat
  | .hbm => 3
  | .vmem => 4
  | .smem => 0
  | _ => 0

abbrev bufTy : (tb : Table) → Fin (tcTables nBuf tb) → BufTy
  | .hbm, ⟨0, _⟩ => ⟨S2x2048x2048, .f32⟩
  | .hbm, ⟨1, _⟩ => ⟨S4096x2048, .f32⟩
  | .hbm, ⟨2, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S2x2048x2048 : Shape := ⟨3, ![2, 2048, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .bf16⟩
  | .hbm, ⟨2, _⟩ => ⟨S4096x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel9.lean ====
abbrev S2x16x2048x1024 : Shape := ⟨4, ![2, 16, 2048, 1024]⟩
abbrev S65536x1024 : Shape := ⟨2, ![65536, 1024]⟩
abbrev S2048x1024 : Shape := ⟨2, ![2048, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2x16x2048x1024, .f32⟩
  | .hbm, ⟨1, _⟩ => ⟨S65536x1024, .f32⟩
  | .hbm, ⟨2, _⟩ => ⟨S65536x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | _, _ => ⟨S2x16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9Ideal.lean ====
abbrev S2x16x2048x1024 : Shape := ⟨4, ![2, 16, 2048, 1024]⟩
abbrev S65536x1024 : Shape := ⟨2, ![65536, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x16x2048x1024, .f32⟩
  | .hbm, ⟨1, _⟩ => ⟨S2x16x2048x1024, .bf16⟩
  | .hbm, ⟨2, _⟩ => ⟨S65536x1024, .bf16⟩
  | _, _ => ⟨S2x16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel10.lean ====
abbrev S2x16x1024x2048 : Shape := ⟨4, ![2, 16, 1024, 2048]⟩
abbrev S32768x2048 : Shape := ⟨2, ![32768, 2048]⟩
abbrev S1024x2048 : Shape := ⟨2, ![1024, 2048]⟩

abbrev nBuf : Space → Nat
  | .hbm => 3
  | .vmem => 4
  | .smem => 0
  | _ => 0

abbrev bufTy : (tb : Table) → Fin (tcTables nBuf tb) → BufTy
  | .hbm, ⟨0, _⟩ => ⟨S2x16x1024x2048, .f32⟩
  | .hbm, ⟨1, _⟩ => ⟨S32768x2048, .f32⟩
  | .hbm, ⟨2, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | _, _ => ⟨S2x16x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference10Ideal.lean ====
abbrev S2x16x1024x2048 : Shape := ⟨4, ![2, 16, 1024, 2048]⟩
abbrev S32768x2048 : Shape := ⟨2, ![32768, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x16x1024x2048, .f32⟩
  | .hbm, ⟨1, _⟩ => ⟨S2x16x1024x2048, .bf16⟩
  | .hbm, ⟨2, _⟩ => ⟨S32768x2048, .bf16⟩
  | _, _ => ⟨S2x16x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Softmax.lean ====
/- Two softmax averages on one set of scores. One takes powers of two of the scores, divides the
   weighted sum by the sum of the weights at the end, and subtracts; the other takes exponentials of the
   scores times log 2, divides every weight first, and sums the differences. On real inputs they agree. -/
module

public import Idealize.ShloMosaic.Lib.Pointwise

@[expose] public section

noncomputable section

namespace Cert.Attn

open Idealize.ShloMosaic

variable {ι : Type} [Fintype ι]

/-- The greatest of a family of extended reals, from below everything. -/
def rowMax (f : ι → EReal) : EReal := Finset.univ.fold max ⊥ f

/-- The weights of a row: two to the power of each score less the greatest. -/
def weight2 (s : ι → EReal) (j : ι) : EReal := Ideal.exp2 (s j - rowMax s)

/-- The two weighted sums, each over its sum of weights, the second times `lam`. -/
def mixLate (lam : EReal) (s₁ s₂ v : ι → EReal) : EReal :=
  (∑ j, weight2 s₁ j * v j) * Ideal.div 1 (∑ j, weight2 s₁ j)
    - (∑ j, weight2 s₂ j * v j) * Ideal.div lam (∑ j, weight2 s₂ j)

/-- The exponentials of a row of scores times `c`, less the greatest. -/
def weightE (c : EReal) (s : ι → EReal) (j : ι) : EReal :=
  Ideal.exp (s j * c - max ⊥ (rowMax fun k => s k * c))

/-- The softmax of a row of scores times `c`. -/
def prob (c : EReal) (s : ι → EReal) (j : ι) : EReal :=
  Ideal.div (weightE c s j) (0 + ∑ k, weightE c s k)

/-- The values averaged by the difference of two softmaxes. -/
def mixEarly (c lam : EReal) (s₁ s₂ v : ι → EReal) : EReal :=
  ∑ j, v j * (prob c s₁ j - lam * prob c s₂ j)

/-- A sum of reals is the same sum among the extended reals. -/
theorem sum_coe (f : ι → ℝ) : ∑ j, (f j : EReal) = ((∑ j, f j : ℝ) : EReal) := by
  classical
  induction (Finset.univ : Finset ι) using Finset.induction_on with
  | empty => simp
  | insert a s ha ih => rw [Finset.sum_insert ha, Finset.sum_insert ha, ih, EReal.coe_add]

variable [Nonempty ι]

/-- The greatest of a family of reals. -/
def top (f : ι → ℝ) : ℝ := Finset.univ.sup' Finset.univ_nonempty f

theorem rowMax_coe (f : ι → ℝ) : rowMax (fun j => (f j : EReal)) = (top f : EReal) := by
  apply le_antisymm
  · unfold rowMax
    rw [Finset.fold_max_le]
    exact ⟨bot_le, fun j hj => EReal.coe_le_coe_iff.2 (Finset.le_sup' f hj)⟩
  · obtain ⟨j, hj, h⟩ := Finset.exists_mem_eq_sup' (Finset.univ_nonempty (α := ι)) f
    unfold rowMax top
    rw [Finset.le_fold_max]
    exact Or.inr ⟨j, hj, by rw [h]⟩

theorem top_mul (f : ι → ℝ) {c : ℝ} (hc : 0 < c) : top (fun j => f j * c) = top f * c := by
  unfold top
  rw [Finset.sup'_mul₀ hc.le]

/-- Both kinds of weight are one real exponential. -/
theorem weight2_coe (s : ι → ℝ) (j : ι) :
    weight2 (fun j => (s j : EReal)) j = (Real.exp ((s j - top s) * Real.log 2) : EReal) := by
  unfold weight2
  rw [rowMax_coe, ← EReal.coe_sub, Ideal.exp2_coe]
  congr 1
  show (2 : ℝ) ^ (s j - top s) = _
  rw [Real.rpow_def_of_pos (by norm_num), mul_comm]

theorem weightE_coe (s : ι → ℝ) (j : ι) :
    weightE (Real.log 2 : EReal) (fun j => (s j : EReal)) j = (Real.exp ((s j - top s) * Real.log 2) : EReal) := by
  unfold weightE
  simp only [← EReal.coe_mul]
  rw [rowMax_coe, top_mul s (Real.log_pos (by norm_num)), max_eq_right bot_le, ← EReal.coe_sub, Ideal.exp_coe, sub_mul]

/-- On real scores, values and factor the two averages agree. -/
theorem mixLate_eq_mixEarly (lam : ℝ) (s₁ s₂ v : ι → ℝ) :
    mixLate (lam : EReal) (fun j => (s₁ j : EReal)) (fun j => (s₂ j : EReal)) (fun j => (v j : EReal))
      = mixEarly (Real.log 2 : EReal) (lam : EReal) (fun j => (s₁ j : EReal)) (fun j => (s₂ j : EReal))
          (fun j => (v j : EReal)) := by
  have pos : ∀ s : ι → ℝ, 0 < ∑ j, Real.exp ((s j - top s) * Real.log 2) := fun s =>
    Finset.sum_pos (fun j _ => Real.exp_pos _) Finset.univ_nonempty
  have h₁ := (pos s₁).ne'
  have h₂ := (pos s₂).ne'
  unfold mixLate mixEarly prob
  simp only [weight2_coe, weightE_coe, ← EReal.coe_mul, sum_coe, zero_add]
  simp only [Ideal.div_coe h₁, Ideal.div_coe h₂, ← EReal.coe_mul, ← EReal.coe_sub, sum_coe, one_mul]
  congr 1
  rw [Finset.sum_mul, Finset.sum_mul, ← Finset.sum_sub_distrib]
  exact Finset.sum_congr rfl fun j _ => by ring

end Cert.Attn

end
-- ==== Proof.Block.lean ====
/- What one grid point of the attention kernel computes: the eight blocks of 256 query rows it stores are
   rows of one function of the point's queries, keys, values and weights. -/
module

public import proofs.«01_k».proof.Proof.Gen.KernelIdeal.Value
public import Idealize.ShloMosaic.Lib.Pipeline.ValueKit
public import Idealize.ShloMosaic.Lib.Pipeline.ReadBack
public import proofs.«01_k».proof.Proof.Softmax

@[expose] public section

noncomputable section

namespace Cert.Attn

open Idealize.ShloMosaic

/-- Lane `d` of half `c` of a head's 128 lanes. -/
def lane (c : Fin 2) (d : Fin 64) : Fin 128 := ⟨64 * c.val + d.val, by omega⟩

/-- The scores of one query row against every key, over one half of the head's lanes. -/
def score (c : Fin 2) (q : Fin 128 → EReal) (k : Fin 2048 → Fin 128 → EReal) (j : Fin 2048) : EReal :=
  ∑ d : Fin 64, q (lane c d) * k j (lane c d)

/-- A row divided by its root mean square, times a weight row and a factor. -/
def normed (o w : Fin 128 → EReal) (post : EReal) (e : Fin 128) : EReal :=
  o e * Ideal.rsqrt (Ideal.div (∑ x, o x * o x) (Ideal.ofBits .f32 0x43000000#32) + Ideal.ofBits .f32 0x3727C5AC#32)
    * w e * post

/-- One query row of the layer's attention, as the kernel computes it. -/
def rowLate (lam post : EReal) (q : Fin 128 → EReal) (k v : Fin 2048 → Fin 128 → EReal) (w : Fin 128 → EReal) :
    Fin 128 → EReal :=
  normed (fun e => mixLate lam (score 0 q k) (score 1 q k) fun j => v j e) w post

theorem sum_halves (f : Fin 128 → EReal) :
    ∑ x, f x = (∑ d : Fin 64, f (lane 0 d)) + ∑ d : Fin 64, f (lane 1 d) := by
  rw [show (∑ x, f x) = ∑ x : Fin (64 + 64), f x from rfl, Fin.sum_univ_add]
  congr 1 <;> exact Finset.sum_congr rfl fun d _ => congrArg f (Fin.ext (by simp [lane]))

theorem low_word : ∀ x : Fin 128, IntOp.cmpi .slt (BitVec.ofNat 32 x.val) 64#32 = if x.val < 64 then 1#1 else 0#1 := by
  decide +kernel

theorem high_word : ∀ x : Fin 128, IntOp.cmpi .sge (BitVec.ofNat 32 x.val) 64#32 = if x.val < 64 then 0#1 else 1#1 := by
  decide +kernel

theorem first_word : ∀ x : Fin 128, IntOp.cmpi .eq (BitVec.ofNat 32 x.val) 0#32 = if x.val = 0 then 1#1 else 0#1 := by
  decide +kernel

/-- A sum over all lanes, the upper ones masked to zero, is the lower half's. -/
theorem sum_low (f : Fin 128 → EReal) :
    ∑ x : Fin 128, Scalar.select (IntOp.cmpi .slt (BitVec.ofNat 32 x.val) 64#32) (f x) 0 = ∑ d : Fin 64, f (lane 0 d) := by
  rw [sum_halves]
  simp only [low_word]
  simp [lane, Scalar.select]

/-- A sum over all lanes, the lower ones masked to zero, is the upper half's. -/
theorem sum_high (f : Fin 128 → EReal) :
    ∑ x : Fin 128, Scalar.select (IntOp.cmpi .sge (BitVec.ofNat 32 x.val) 64#32) (f x) 0 = ∑ d : Fin 64, f (lane 1 d) := by
  rw [sum_halves]
  simp only [high_word]
  simp [lane, Scalar.select]

theorem neg_inf : Ideal.ofBits .f32 0xFF800000#32 = ⊥ := by simp [Ideal.ofBits, Ideal.ieee]

end Cert.Attn

namespace Cert.KernelIdeal.Attn

open Cert.KernelIdeal Cert.KernelIdeal.Gen Idealize.ShloMosaic Idealize.ShloMosaic.TcCoe Idealize.SL.Sem
open Cert.Attn

theorem low_apply (k : Vec Ideal S1x2048x128 .bf16) (q : Vec Ideal S1x256x128 .bf16) (r : Fin 256) (j : Fin 2048) :
    k0_pay7 k q (ix2 r j) = score 0 (fun d => q (ix3 0 r d)) (fun j d => k (ix3 0 j d)) j := by
  pointwise [k0_pay7, k0_pay5, k0_pay6, k0_pay4]
  exact sum_low _

theorem high_apply (k : Vec Ideal S1x2048x128 .bf16) (q : Vec Ideal S1x256x128 .bf16) (r : Fin 256) (j : Fin 2048) :
    k0_pay8 k q (ix2 r j) = score 1 (fun d => q (ix3 0 r d)) (fun j d => k (ix3 0 j d)) j := by
  pointwise [k0_pay8, k0_pay5, k0_pay6, k0_pay4]
  exact sum_high _

/-- The values widened by the indicator of lane 128. -/
def widened (v : Vec Ideal S1x2048x128 .bf16) : Vec Ideal S2048x256 .bf16 :=
  (View.whole cc0_scratch0).readCov
    [⟨Rect.unit ![0, 128] ![2048, 128] inb_S2048x256_S2048x128_0_128, k0_pay3 (F := Ideal)⟩,
      ⟨Rect.unit ![0, 0] ![2048, 128] inb_S2048x256_S2048x128_0_0, k0_pay2 v⟩]
    (Rect.unit ![0, 0] ![2048, 256] inb_S2048x256_S2048x256_0_0).toLoadRect

theorem widened_eq (v : Vec Ideal S1x2048x128 .bf16) (y : S2048x256.Idx) :
    widened v y = View.canon [⟨Rect.unit ![0, 128] ![2048, 128] inb_S2048x256_S2048x128_0_128, k0_pay3 (F := Ideal)⟩,
      ⟨Rect.unit ![0, 0] ![2048, 128] inb_S2048x256_S2048x128_0_0, k0_pay2 v⟩] y := by
  unfold widened
  rw [View.readCov_eq_canon']
  refine congrArg (View.canon _) ?_
  funext a
  apply Fin.ext
  match a with
  | ⟨0, _⟩ => show 0 + 1 * (y 0).val = (y 0).val; omega
  | ⟨1, _⟩ => show 0 + 1 * (y 1).val = (y 1).val; omega

theorem widened_value (v : Vec Ideal S1x2048x128 .bf16) (j : Fin 2048) (e : Fin 128) (he : e.val < 256) :
    widened v (ix2 j ⟨e.val, he⟩) = v (ix3 0 j e) := by
  rw [widened_eq]
  canon_tiles x h
  · exact absurd (show e.val = 128 + (x 1).val from h1) (by omega)
  · pointwise [k0_pay2]
    congr 2
    · exact Fin.ext (show (x 0).val = j.val from h0.symm)
    · exact Fin.ext (show (x 1).val = e.val from h1.symm)

theorem widened_one (v : Vec Ideal S1x2048x128 .bf16) (j : Fin 2048) :
    widened v (ix2 j 128) = 1 := by
  rw [widened_eq]
  canon_tiles x h
  · have hx : (x 1).val = 0 := by have : 128 = 128 + (x 1).val := h1; omega
    pointwise [k0_pay3]
    rw [hx]
    rfl
  · exact absurd (show 128 = (x 1).val from h1) (by omega)

/-- The rows of one stored block: the normed mix of the two halves' softmaxes. -/
def stored (lam post : Ideal .f32) (k v : Vec Ideal S1x2048x128 .bf16) (w : Vec Ideal S1x128 .f32)
    (q : Vec Ideal S1x256x128 .bf16) : FVec Ideal S1x256x128 .bf16 :=
  k0_pay16 post (k0_pay14 lam (k0_pay7 k q) (k0_pay8 k q) (widened v) (widened v)) (k0_pay15 w)

theorem stored_apply (lam post : Ideal .f32) (k v : Vec Ideal S1x2048x128 .bf16) (w : Vec Ideal S1x128 .f32)
    (q : Vec Ideal S1x256x128 .bf16) (r : Fin 256) (e : Fin 128) :
    stored lam post k v w q (ix3 0 r e)
      = rowLate lam post (fun d => q (ix3 0 r d)) (fun j d => k (ix3 0 j d)) (fun j d => v (ix3 0 j d))
          (fun e => w (ix2 0 e)) e := by
  unfold stored
  pointwise [k0_pay16, k0_pay15, k0_pay14]
  simp only [low_apply, high_apply, neg_inf, widened_one, mul_one, widened_value]
  rfl

/-- What a grid point leaves at row `n`, lane `e` of its block. -/
def pointOut (x0 : Vec Ideal S2 .f32) (x1 x2 x3 : Vec Ideal S1x2048x128 .bf16) (x4 : Vec Ideal S1x128 .f32)
    (n : Fin 2048) (e : Fin 128) : EReal :=
  rowLate (x0 (ix1 0)) (x0 (ix1 1)) (fun d => x1 (ix3 0 n d)) (fun j d => x2 (ix3 0 j d)) (fun j d => x3 (ix3 0 j d))
    (fun e => x4 (ix2 0 e)) e

theorem first_scalar (x0 : Vec Ideal S2 .f32) (h : 0 < S1.numel) :
    View.ld x0 (Rect.unit ![0] ![1] inb_S2_S1_0) (Shape.Idx.first h) = x0 (ix1 0) :=
  View.ld_unit_apply_of _ _ _ _ _ _ fun a => match a with
    | ⟨0, _⟩ => by have : (Shape.Idx.first h 0).val < 1 := (Shape.Idx.first h 0).isLt; show 0 = 0 + (Shape.Idx.first h 0).val; omega

theorem second_scalar (x0 : Vec Ideal S2 .f32) (h : 0 < S1.numel) :
    View.ld x0 (Rect.unit ![1] ![1] inb_S2_S1_1) (Shape.Idx.first h) = x0 (ix1 1) :=
  View.ld_unit_apply_of _ _ _ _ _ _ fun a => match a with
    | ⟨0, _⟩ => by have : (Shape.Idx.first h 0).val < 1 := (Shape.Idx.first h 0).isLt; show 1 = 1 + (Shape.Idx.first h 0).val; omega

/-- A stored block holds the point's rows from its first row on. -/
theorem stored_row (x0 : Vec Ideal S2 .f32) (x1 x2 x3 : Vec Ideal S1x2048x128 .bf16) (x4 : Vec Ideal S1x128 .f32)
    (o : Nat) (inb : ∀ a, (![0, o, 0] : Fin 3 → Nat) a + (![1, 256, 128] : Fin 3 → Nat) a ≤ S1x2048x128.size a)
    (n : Fin 2048) (e : Fin 128) (x : S1x256x128.Idx) (h1 : n.val = o + (x 1).val) (h2 : e.val = (x 2).val) :
    stored (x0 (ix1 0)) (x0 (ix1 1)) x2 x3 x4 (View.ld x1 (Rect.unit ![0, o, 0] ![1, 256, 128] inb)) x
      = pointOut x0 x1 x2 x3 x4 n e := by
  obtain ⟨a, b, f, rfl⟩ : ∃ (a : Fin 1) (b : Fin 256) (f : Fin 128), x = ix3 a b f := ⟨x 0, x 1, x 2, eq_ix3 x⟩
  obtain rfl : a = 0 := Subsingleton.elim _ _
  obtain rfl : e = f := Fin.ext h2
  rw [stored_apply]
  unfold pointOut
  congr 1
  funext d
  exact View.ld_unit_apply_of _ _ _ _ _ _ fun a => match a with
    | ⟨0, _⟩ => rfl
    | ⟨1, _⟩ => h1
    | ⟨2, _⟩ => (Nat.zero_add _).symm

theorem outs_apply (m : (ℓ : Loc nD τ sig) → Buf (Elt Ideal) ℓ) (c : Dev nD) (t : Fin cfg0.N) (n : Fin 2048) (e : Fin 128) :
    outsAt0 m c t (ix3 0 n e) = pointOut (iblk m c 0 t) (iblk m c 1 t) (iblk m c 2 t) (iblk m c 3 t) (iblk m c 4 t) n e := by
  unfold outsAt0
  frame_out
  generalize iblk m c 0 t = x0
  generalize iblk m c 1 t = x1
  generalize iblk m c 2 t = x2
  generalize iblk m c 3 t = x3
  generalize iblk m c 4 t = x4
  canon_tiles x h
  case' piece0 => refine Eq.trans (congrFun ?_ x) (stored_row x0 x1 x2 x3 x4 1792 inb_S1x2048x128_S1x256x128_0_1792_0 n e x h1 h2)
  case' piece1 => refine Eq.trans (congrFun ?_ x) (stored_row x0 x1 x2 x3 x4 1536 inb_S1x2048x128_S1x256x128_0_1536_0 n e x h1 h2)
  case' piece2 => refine Eq.trans (congrFun ?_ x) (stored_row x0 x1 x2 x3 x4 1280 inb_S1x2048x128_S1x256x128_0_1280_0 n e x h1 h2)
  case' piece3 => refine Eq.trans (congrFun ?_ x) (stored_row x0 x1 x2 x3 x4 1024 inb_S1x2048x128_S1x256x128_0_1024_0 n e x h1 h2)
  case' piece4 => refine Eq.trans (congrFun ?_ x) (stored_row x0 x1 x2 x3 x4 768 inb_S1x2048x128_S1x256x128_0_768_0 n e x h1 h2)
  case' piece5 => refine Eq.trans (congrFun ?_ x) (stored_row x0 x1 x2 x3 x4 512 inb_S1x2048x128_S1x256x128_0_512_0 n e x h1 h2)
  case' piece6 => refine Eq.trans (congrFun ?_ x) (stored_row x0 x1 x2 x3 x4 256 inb_S1x2048x128_S1x256x128_0_256_0 n e x h1 h2)
  case' piece7 =>
    refine Eq.trans (congrFun ?_ x) (stored_row x0 x1 x2 x3 x4 0 inb_S1x2048x128_S1x256x128_0_0_0 n e x (h1.trans (Nat.zero_add _).symm) h2)
  all_goals
    rw [first_scalar, second_scalar]
    unfold stored widened
    generalize View.ld x1 _ = q
    unfold_payloads
    rfl

end Cert.KernelIdeal.Attn

end
-- ==== Proof.Array.lean ====
/- The attention kernel's result, element by element, as a function of its arguments. -/
module

public import proofs.«01_k».proof.Proof.Block

@[expose] public section

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.Attn

variable (m : (ℓ : Loc nD τ sig) → Buf (Elt Ideal) ℓ)

/-- Which block of each array a grid point sees. -/
theorem blocks_at : ∀ t : Fin cfg0.N,
    win0_0.index t = ![0] ∧ win0_1.index t = ![t.val / 8, 0, t.val % 8] ∧ win0_2.index t = ![t.val / 8, 0, 8 + t.val % 8]
      ∧ win0_3.index t = ![t.val / 8, 0, 16 + t.val % 8] ∧ win0_4.index t = ![0, 0]
      ∧ win0_5.index t = ![t.val / 8, 0, t.val % 8] := by
  decide +kernel

/-- The result at sequence `b`, row `n`, head `h`, lane `e`. -/
def resultAt (x0 : Vec Ideal S2 .f32) (x1 : Vec Ideal S20x2048x3072 .bf16) (x2 : Vec Ideal S128 .f32)
    (b : Fin 20) (n : Fin 2048) (h : Fin 8) : Fin 128 → EReal :=
  rowLate (x0 (ix1 0)) (x0 (ix1 1)) (fun d => x1 (ix3 b n ⟨128 * h.val + d.val, by omega⟩))
    (fun j d => x1 (ix3 b j ⟨1024 + (128 * h.val + d.val), by omega⟩))
    (fun j d => x1 (ix3 b j ⟨2048 + (128 * h.val + d.val), by omega⟩)) (fun e => x2 (ix1 e))

/-- The whole result. -/
def result (x0 : Vec Ideal S2 .f32) (x1 : Vec Ideal S20x2048x3072 .bf16) (x2 : Vec Ideal S128 .f32) :
    S20x2048x1024.Idx → EReal := fun i =>
  have h2 : (i 2).val < 1024 := (i 2).isLt
  resultAt x0 x1 x2 (i 0) (i 1) ⟨(i 2).val / 128, by omega⟩ ⟨(i 2).val % 128, by omega⟩

theorem array (c : Dev nD) :
    (dats m 0 c).arrAt 5 (cfgs 0).N
      = result (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨a, n, e, rfl⟩ : ∃ (a : Fin 1) (n : Fin 2048) (e : Fin 128), y = ix3 a n e := ⟨y 0, y 1, y 2, eq_ix3 y⟩
  obtain rfl : a = 0 := Subsingleton.elim _ _
  rw [outs_apply]
  obtain ⟨e0, e1, e2, e3, e4, e5⟩ := blocks_at t
  have ht : t.val < 160 := t.isLt
  unfold pointOut result resultAt
  blk_point [iblk, V, e0, e1, e2, e3, e4, e5]

end Cert.KernelIdeal.Attn

end
-- ==== Proof.Reference.lean ====
/- The attention's reference, element by element, in the words of `Softmax` and `Block`. -/
module

public import proofs.«01_k».proof.Proof.Gen.ReferenceIdeal.Read
public import proofs.«01_k».proof.Proof.Block

@[expose] public section

noncomputable section

namespace Cert.ReferenceIdeal.Attn

open Cert.ReferenceIdeal Cert.ReferenceIdeal.Gen Idealize.ShloMosaic Idealize.ShloMosaic.TcCoe Idealize.SL.Sem
open Cert.ReferenceIdeal.Read
open Cert.Attn

variable (x0 : Vec Ideal S2 .f32) (x1 : Vec Ideal S20x2048x3072 .bf16) (x2 : Vec Ideal S128 .f32)
  (b : Fin 20) (h : Fin 8) (c : Fin 2) (n j : Fin 2048) (e : Fin 128)

/-- A head's query row, key rows and value rows. -/
def query : Fin 128 → EReal := fun d => x1 (ix3 b n ⟨128 * h.val + d.val, by omega⟩)
def keys : Fin 2048 → Fin 128 → EReal := fun j d => x1 (ix3 b j ⟨1024 + (128 * h.val + d.val), by omega⟩)
def vals : Fin 2048 → Fin 128 → EReal := fun j d => x1 (ix3 b j ⟨2048 + (128 * h.val + d.val), by omega⟩)

theorem log_two : Ideal.log (Ideal.ofBits .f32 0x40000000#32) = (Real.log 2 : EReal) := by
  have two : Ideal.ofBits .f32 0x40000000#32 = ((2 : ℝ) : EReal) := by
    simp [Ideal.ofBits, Ideal.ieee, -EReal.coe_mul]; norm_num
  rw [two, Ideal.log_coe, if_neg (by norm_num)]

theorem scores_apply : val_main_v14 (F := Ideal) x1 (ix5 b h c n j)
    = score c (query x1 b h n) (keys x1 b h) j * (Real.log 2 : EReal) := by
  pointwise [val_main_v14, val_main_v13, val_main_v12, val_main_cst, val_main_v11, val_main_v6, val_main_v8, val_main_v4,
    val_main_v5, val_main_v7]
  rw [log_two]
  unfold score query keys lane
  congr 1
  refine Finset.sum_congr rfl fun d _ => ?_
  congr 1 <;> blk_ext

/-- The greatest entry along the last of five axes. -/
theorem fold_last {n0 n1 n2 n3 n4 : Nat}
    (r : (⟨5, ![n0, n1, n2, n3, n4]⟩ : Shape).ReducesTo [4] ⟨4, ![n0, n1, n2, n3]⟩) (u : 0 < S_.numel)
    (y : (⟨5, ![n0, n1, n2, n3, n4]⟩ : Shape).Idx → EReal) (z : S_.Idx → EReal) (i0 : Fin n0) (i1 : Fin n1) (i2 : Fin n2)
    (i3 : Fin n3) :
    Host.reduce (max : EReal → EReal → EReal) y z r u (ix4 i0 i1 i2 i3)
      = Finset.univ.fold max (z (Shape.Idx.first u)) fun k => y (ix5 i0 i1 i2 i3 k) := by
  rw [Host.reduce_eq_fold, r.fold_fiber_r5_a4]
  rfl

theorem greatest_apply : val_main_v15 (F := Ideal) x1 (ix4 b h c n)
    = rowMax fun k => score c (query x1 b h n) (keys x1 b h) k * (Real.log 2 : EReal) := by
  unfold val_main_v15
  refine (fold_last reducesTo_S20x8x2x2048x2048_S20x8x2x2048_d4 h_S_ _ _ b h c n).trans ?_
  simp only [scores_apply]
  rw [val_main_cst_0_apply]
  unfold rowMax
  rw [← neg_inf]
  rfl

theorem floor_apply : val_main_v16 (F := Ideal) (ix4 b h c n) = ⊥ := by
  pointwise [val_main_v16, val_main_cst_1]
  exact neg_inf

theorem shift_apply : val_main_v17 (F := Ideal) x1 (ix4 b h c n)
    = max ⊥ (rowMax fun k => score c (query x1 b h n) (keys x1 b h) k * (Real.log 2 : EReal)) := by
  rw [val_main_v17_apply, floor_apply, greatest_apply]
  rfl

theorem prob_apply : val_main_v25 (F := Ideal) x1 (ix5 b h c n j)
    = prob (Real.log 2 : EReal) (score c (query x1 b h n) (keys x1 b h)) j := by
  pointwise [val_main_v25, val_main_v24, val_main_v23, val_main_v22, val_main_v21, val_main_v20, val_main_v19, val_main_v18,
    val_main_cst_2]
  simp only [scores_apply, shift_apply]
  unfold prob weightE
  simp only [zero_add]

theorem first_apply : val_main_v27 (F := Ideal) x1 (ix4 b h n j) = val_main_v25 (F := Ideal) x1 (ix5 b h 0 n j) := by
  rw [val_main_v27_apply, val_main_v26_apply]
  blk_ext

theorem second_apply : val_main_v29 (F := Ideal) x1 (ix4 b h n j) = val_main_v25 (F := Ideal) x1 (ix5 b h 1 n j) := by
  rw [val_main_v29_apply, val_main_v28_apply]
  blk_ext

theorem lam_apply (i : S_.Idx) : val_main_v1 (F := Ideal) x0 i = x0 (ix1 0) := by
  unfold val_main_v1
  refine (shapeCast_apply _ shapeCasts_S1_S_ i (ix1 0) rfl).trans ?_
  pointwise [val_main_v0]

theorem post_apply (i : S_.Idx) : val_main_v3 (F := Ideal) x0 i = x0 (ix1 1) := by
  unfold val_main_v3
  refine (shapeCast_apply _ shapeCasts_S1_S_ i (ix1 0) rfl).trans ?_
  pointwise [val_main_v2]

theorem weights_apply : val_main_v32 (F := Ideal) x0 x1 (ix4 b h n j)
    = prob (Real.log 2 : EReal) (score 0 (query x1 b h n) (keys x1 b h)) j
      - x0 (ix1 0) * prob (Real.log 2 : EReal) (score 1 (query x1 b h n) (keys x1 b h)) j := by
  rw [val_main_v32_apply, val_main_v31_apply, val_main_v30_apply, lam_apply, first_apply, second_apply, prob_apply, prob_apply]
  rfl

/-- A head's row before it is normed. -/
theorem mixed_apply : val_main_v34 (F := Ideal) x0 x1 (ix4 b n h e)
    = mixEarly (Real.log 2 : EReal) (x0 (ix1 0)) (score 0 (query x1 b h n) (keys x1 b h))
        (score 1 (query x1 b h n) (keys x1 b h)) fun j => vals x1 b h j e := by
  unfold val_main_v34 val_main_v33
  have hw := weights_apply x0 x1 b h n
  generalize val_main_v32 (F := Ideal) x0 x1 = y at hw ⊢
  pointwise [val_main_v10, val_main_v9, val_main_v4]
  simp only [hw]
  unfold mixEarly vals
  refine Finset.sum_congr rfl fun j _ => ?_
  congr 1
  blk_ext

/-- The reference's result at sequence `b`, row `n`, head `h`, lane `e`. -/
theorem reference_apply (f : Fin 1024) (hf : f.val = 128 * h.val + e.val) :
    val_main_v51 (F := Ideal) x0 x1 x2 (ix3 b n f)
      = normed (fun e => mixEarly (Real.log 2 : EReal) (x0 (ix1 0)) (score 0 (query x1 b h n) (keys x1 b h))
          (score 1 (query x1 b h n) (keys x1 b h)) fun j => vals x1 b h j e) (fun e => x2 (ix1 e)) (x0 (ix1 1)) e := by
  unfold normed
  simp only [← mixed_apply]
  have hp := post_apply x0
  have h0 : (⟨f.val / 128, by omega⟩ : Fin 8) = h := Fin.ext (by show f.val / 128 = h.val; omega)
  have h1 : (⟨f.val % 128, by omega⟩ : Fin 128) = e := Fin.ext (by show f.val % 128 = e.val; omega)
  unfold val_main_v51 val_main_v50 val_main_v49 val_main_v48
  generalize val_main_v3 (F := Ideal) x0 = p at hp ⊢
  pointwise [val_main_v47, val_main_v46, val_main_v45, val_main_v44, val_main_v43, val_main_v42, val_main_v41, val_main_v40,
    val_main_v39, val_main_v38, val_main_v37, val_main_v36, val_main_v35, val_main_cst_3, val_main_cst_4, val_main_cst_5]
  simp only [h0, h1, hp]

end Cert.ReferenceIdeal.Attn

end
-- ==== Proof.Same.lean ====
/- On real arguments the kernel's result is the reference's. -/
module

public import proofs.«01_k».proof.Defs
public import proofs.«01_k».proof.Proof.Array
public import proofs.«01_k».proof.Proof.Reference

@[expose] public section

noncomputable section

namespace Cert.Attn

open Idealize.ShloMosaic

theorem score_coe (c : Fin 2) (q : Fin 128 → ℝ) (k : Fin 2048 → Fin 128 → ℝ) :
    score c (fun d => (q d : EReal)) (fun j d => (k j d : EReal))
      = fun j => ((∑ d : Fin 64, q (lane c d) * k j (lane c d) : ℝ) : EReal) := by
  funext j
  unfold score
  simp only [← EReal.coe_mul]
  exact sum_coe _

/-- An extended real whose absolute value is below infinity is a real. -/
theorem real_of_lt {x : EReal} (h : max x (-x) < ⊤) : ∃ r : ℝ, x = r := by
  induction x with
  | bot => simp at h
  | top => simp at h
  | coe r => exact ⟨r, rfl⟩

theorem result_eq (x0 : Vec Ideal ⟨1, ![2]⟩ .f32) (x1 : Vec Ideal ⟨3, ![20, 2048, 3072]⟩ .bf16) (x2 : Vec Ideal ⟨1, ![128]⟩ .f32)
    (h0 : ∃ r : ℝ, x0 (ix1 0) = r) (h1 : ∀ i, ∃ r : ℝ, x1 i = r) :
    Cert.KernelIdeal.Attn.result x0 x1 x2 = Cert.ReferenceIdeal.Read.val_main_v51 (F := Ideal) x0 x1 x2 := by
  obtain ⟨lam, hlam⟩ := h0
  obtain ⟨g, hg⟩ := Classical.skolem.1 h1
  funext i
  obtain ⟨b, n, f, rfl⟩ : ∃ (b : Fin 20) (n : Fin 2048) (f : Fin 1024), i = ix3 b n f := ⟨i 0, i 1, i 2, eq_ix3 i⟩
  rw [Cert.ReferenceIdeal.Attn.reference_apply x0 x1 x2 b ⟨f.val / 128, by omega⟩ n ⟨f.val % 128, by omega⟩ f
    (by show f.val = 128 * (f.val / 128) + f.val % 128; omega)]
  unfold Cert.KernelIdeal.Attn.result Cert.KernelIdeal.Attn.resultAt rowLate
  refine congrArg (fun o => normed o _ _ _) ?_
  funext e
  unfold Cert.ReferenceIdeal.Attn.query Cert.ReferenceIdeal.Attn.keys Cert.ReferenceIdeal.Attn.vals
  simp only [hlam, hg]
  rw [score_coe, score_coe]
  exact mixLate_eq_mixEarly _ _ _ _

end Cert.Attn

namespace Cert.Pre_finite_inputs.Attn

open Idealize.ShloMosaic Cert.Pre_finite_inputs Cert.Attn

theorem facts : Cert.Pre_finite_inputs.Facts where
  bitsLt_bf16_f32 := by decide
  bcast_S_S20x2048x3072 := by decide
  slices_S2_S1_0 := by decide
  shapeCasts_S1_S_ := by decide

variable [Facts]

theorem bit_one {b : Bool} : BitVec.ofBool b = 1#1 ↔ b = true := by cases b <;> decide

/-- What the precondition gives of each argument. -/
theorem reals (x0 : Vec Ideal S2 .f32) (x1 : Vec Ideal S20x2048x3072 .bf16) (x2 : Vec Ideal S128 .f32)
    (h : fn (F := Ideal) x0 x1 x2 = fun _ => 1#1) :
    (∃ r : ℝ, x0 (ix1 0) = r) ∧ ∀ i, ∃ r : ℝ, x1 i = r := by
  have inf : Ideal.ofBits .f32 0x7F800000#32 = ⊤ := by
    simp [Ideal.ofBits, Ideal.ieee]
  have key : ∀ (b : Fin 20) (n : Fin 2048) (d : Fin 3072), (∃ r : ℝ, x0 (ix1 0) = r) ∧ ∃ r : ℝ, x1 (ix3 b n d) = r := by
    intro b n d
    have hi := congrFun h (ix3 b n d)
    pointwise [fn] at hi
    rw [IntOp.andi_eq_one, bit_one, bit_one, decide_eq_true_iff, decide_eq_true_iff, inf] at hi
    exact ⟨real_of_lt hi.2, real_of_lt hi.1⟩
  refine ⟨(key 0 0 0).1, fun i => ?_⟩
  rw [eq_ix3 i]
  exact (key _ _ _).2

end Cert.Pre_finite_inputs.Attn

end
-- ==== Proof.InBody.lean ====
/- The input projection's body, run once at any grid point: what it leaves in its scratch rows, in its
   float32 block and in its bfloat16 block, as functions of the blocks it finds.  The scratch rows are
   the normalised, scaled and shifted rows of the sequence, 128 at a time. -/
module

public import proofs.«01_k».proof.Proof.Gen.Kernel2Ideal.Frame
public import proofs.«01_k».proof.Proof.Gen.Kernel2Ideal.Loops
public import Idealize.ShloMosaic.Lib.Pipeline.ReadBack
public import Idealize.ShloMosaic.Lib.VecWindow
public import Idealize.ShloMosaic.Lib.Pointwise

@[expose] public section

set_option maxRecDepth 16384

noncomputable section

namespace Cert.Kernel2Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-- Rows `128 k` to `128 k + 127` of a block of the sequence. -/
def chunk (x : Vec F S1x1024x2048 .f32) (k : Fin 8) : Vec F S1x128x2048 .f32 := fun z =>
  x (ix3 (0 : Fin 1) (⟨128 * k.val + (z 1).val, by have := k.isLt; have : (z 1).val < 128 := (z 1).isLt; omega⟩ : Fin 1024) (z 2))

/-- The scratch rows: each is normed, scaled and shifted with the chunk it lies in. -/
def normed (x : Vec F S1x1024x2048 .f32) (nw : Vec F S1x2048 .f32) (sc sh : Vec F S1x1x2048 .f32) :
    Vec F S1024x2048 .bf16 := fun y =>
  k0_pay1 (chunk x ⟨(y 0).val / 128, by have : (y 0).val < 1024 := (y 0).isLt; omega⟩) nw sc sh
    (ix2 (⟨(y 0).val % 128, by omega⟩ : Fin 128) (y 1))

/-- A block of queries or keys: four heads side by side, each turned by its rows' angles. -/
def turned (j : BitVec 32) (h : Vec F S1024x2048 .bf16) (w : Vec F S1x2048x512 .bf16)
    (cs s1 s2 : Vec F S1024x128 .f32) : Vec F S1x1024x512 .bf16 :=
  View.canon (Val := Elt F) (s := S1x1024x512) (e := .bf16)
    [⟨Rect.unit (s := S1x1024x512) ![0, 0, 384] S1x1024x128.size inb_S1x1024x512_S1x1024x128_0_0_384,
        k0_pay5 h w (k0_pay7 j) (k0_pay8 cs) (k0_pay9 s1) (k0_pay10 s2)⟩,
     ⟨Rect.unit (s := S1x1024x512) ![0, 0, 256] S1x1024x128.size inb_S1x1024x512_S1x1024x128_0_0_256,
        k0_pay4 (k0_pay7 j) (k0_pay9 s1) (k0_pay10 s2) (k0_pay13 (k0_pay2 h w)) (k0_pay14 (k0_pay2 h w) cs) 120#32⟩,
     ⟨Rect.unit (s := S1x1024x512) ![0, 0, 128] S1x1024x128.size inb_S1x1024x512_S1x1024x128_0_0_128,
        k0_pay12 j (k0_pay2 h w) cs s1 s2⟩,
     ⟨Rect.unit (s := S1x1024x512) ![0, 0, 0] S1x1024x128.size inb_S1x1024x512_S1x1024x128_0_0_0,
        k0_pay11 j (k0_pay2 h w) cs s1 s2⟩]

/-- A load of a whole buffer reads what the buffer holds. -/
theorem load_full {S : Shape} {e : EltTy} {a : Memref sig .tc .vmem S e} (h : a.IsWhole) (x : S.Idx → Elt F e)
    {off : Fin S.rank → ℕ} (inb : ∀ k, off k + S.size k ≤ S.size k) :
    a.view.readAt (Elt F) (Rect.unit off S.size inb).toLoadRect (h.unread x) = x :=
  (View.readAt_full a.view _ inb).trans (h.read_unread x)

section Run

variable (c : Dev nD) (i : grid0.Coords)
  (arg2 : Memref sig .tc .vmem S1x1024x2048 .f32) (harg2 : arg2.IsWhole)
  (arg3 : Memref sig .tc .vmem S1x2048 .f32) (harg3 : arg3.IsWhole)
  (arg4 : Memref sig .tc .vmem S1x1x2048 .f32) (harg4 : arg4.IsWhole)
  (arg5 : Memref sig .tc .vmem S1x1x2048 .f32) (harg5 : arg5.IsWhole)
  (arg6 : Memref sig .tc .vmem S1x2048x512 .bf16) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1x1024x512 .f32) (harg10 : arg10.IsWhole)
  (arg11 : Memref sig .tc .vmem S1x1024x512 .bf16) (harg11 : arg11.IsWhole)
  (arg12 : Memref sig .tc .vmem S1024x2048 .bf16) (harg12 : arg12.IsWhole)
  (x0 : Vec F S1x1024x2048 .f32) (x1 : Vec F S1x2048 .f32) (x2 x3 : Vec F S1x1x2048 .f32)
  (x4 : Vec F S1x2048x512 .bf16) (x5 x6 x7 : Vec F S1024x128 .f32)

/-- The body's buffers, all held: the eight inputs, the two outputs and the scratch rows. -/
def held (d8 : Vec F S1x1024x512 .f32) (d9 : Vec F S1x1024x512 .bf16) (s : Vec F S1024x2048 .bf16) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare x5
    ∗ owns (c : Thread nD τ) arg8 fullShare x6 ∗ owns (c : Thread nD τ) arg9 fullShare x7
    ∗ owns (c : Thread nD τ) arg10 fullShare d8 ∗ owns (c : Thread nD τ) arg11 fullShare d9
    ∗ owns (c : Thread nD τ) arg12 fullShare s)

/-- One trip stores one piece: 128 rows, normed. -/
theorem trip_piece (h1 : k0_cond1 i = 1#1) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 h1
        (harg2.unread x0) (harg3.unread x1) (harg4.unread x2) (harg5.unread x3) k
      = [⟨Rect.unit (s := S1024x2048) (k0_off2 k) S128x2048.size (k0_off2_inb i k h1),
          k0_pay1 (chunk x0 ⟨k.val, Nat.lt_of_lt_of_le k.isLt k0_t1_abs.2.1⟩) x1 x2 x3⟩] := by
  have e0 : arg2.view.readAt (Elt F) (Rect.unit (s := S1x1024x2048) (k0_off1 k) S1x128x2048.size (k0_off1_inb i k h1)).toLoadRect (harg2.unread x0)
      = chunk x0 ⟨k.val, Nat.lt_of_lt_of_le k.isLt k0_t1_abs.2.1⟩ := by
    funext z
    rw [View.readAt_unit _ _ _ (k0_off1_eq k) (by rw [← k0_off1_eq k]; exact k0_off1_inb i k h1), harg2.read_unread]
    refine congrArg x0 (funext fun a => Fin.ext ?_)
    fin_cases a <;> simp [VecWindow.window, ix3] <;> omega
  have e1 := load_full harg3 x1 inb_S1x2048_S1x2048_0_0
  have e2 := load_full harg4 x2 inb_S1x1x2048_S1x1x2048_0_0_0
  have e3 := load_full harg5 x3 inb_S1x1x2048_S1x1x2048_0_0_0
  rw [← e0]
  conv_rhs => rw [← e1, ← e2, ← e3]
  unfold tripL_k0_t1 trip_k0_t1
  rfl

/-- Before trip `n` the rows below `128 n` hold the normed rows. -/
theorem rows_read (h1 : k0_cond1 i = 1#1) (g : arg12.view.ty.Contents (Elt F)) :
    ∀ (n : ℕ), n ≤ k0_t1_loop.trips → ∀ y : S1024x2048.Idx, (y 0).val < 128 * n →
      arg12.view.read (Elt F) (arg12.view.writes (Elt F) g
        (pb_k0_t1 (F := F) Variants.none c none i arg2 harg2 arg3 harg3 arg4 harg4 arg5 harg5 arg6 harg6 arg7 harg7 arg8 harg8 arg9 harg9 arg10 harg10 arg11 harg11 arg12 harg12 h1
          (harg2.unread x0) (harg3.unread x1) (harg4.unread x2) (harg5.unread x3) n)) y
        = normed x0 x1 x2 x3 y
  | 0, _, y, hy => absurd hy (by omega)
  | n + 1, hn, y, hy => by
    refine (congrArg (fun L => arg12.view.read (Elt F) (arg12.view.writes (Elt F) g L) y)
      (pb_k0_t1_succ (F := F) Variants.none c none i arg2 harg2 arg3 harg3 arg4 harg4 arg5 harg5 arg6 harg6 arg7 harg7 arg8 harg8 arg9 harg9 arg10 harg10 arg11 harg11 arg12 harg12 h1
        (harg2.unread x0) (harg3.unread x1) (harg4.unread x2) (harg5.unread x3) ⟨n, hn⟩)).trans ?_
    rw [trip_piece, List.singleton_append]
    by_cases hr : (y 0).val < 128 * n
    · refine (View.read_writes_cons_unit_of_not_mem arg12.view g _ _ _ y (k0_off2_eq ⟨n, hn⟩) 0 (.inl hr)).trans ?_
      exact rows_read h1 g n (by omega) y hr
    · have hlt : (y 0).val < 1024 := (y 0).isLt
      have hd : (y 0).val / 128 = n := by omega
      refine (View.read_writes_cons_unit_of_mem arg12.view g _ _ _ y (ix2 (⟨(y 0).val % 128, by omega⟩ : Fin 128) (y 1)) (k0_off2_eq ⟨n, hn⟩)
        (fun a => by fin_cases a <;> simp [ix2] <;> omega)).trans ?_
      unfold normed
      simp only [hd]
      rfl

/-- After the loop the scratch reads as the normed rows. -/
theorem rows_all (h1 : k0_cond1 i = 1#1) (g : arg12.view.ty.Contents (Elt F)) :
      arg12.view.read (Elt F) (arg12.view.writes (Elt F) g
        (pb_k0_t1 (F := F) Variants.none c none i arg2 harg2 arg3 harg3 arg4 harg4 arg5 harg5 arg6 harg6 arg7 harg7 arg8 harg8 arg9 harg9 arg10 harg10 arg11 harg11 arg12 harg12 h1
          (harg2.unread x0) (harg3.unread x1) (harg4.unread x2) (harg5.unread x3) (Scf.trips k0_t1_loop.lb k0_t1_loop.ub k0_t1_loop.st)))
        = normed x0 x1 x2 x3 :=
  funext fun y => rows_read c i arg2 harg2 arg3 harg3 arg4 harg4 arg5 harg5 arg6 harg6 arg7 harg7 arg8 harg8 arg9 harg9 arg10 harg10 arg11 harg11 arg12 harg12 x0 x1 x2 x3 h1 g
    _ (le_refl k0_t1_loop.trips) y (lt_of_lt_of_le (y 0).isLt (by decide +kernel))

set_option maxHeartbeats 1000000 in
/-- At a sequence's first point: the rows are normed and the first block is stored. -/
theorem run_first (h1 : k0_cond1 i = 1#1) (h2 : k0_cond2 i = 1#1) (h3 : ¬k0_cond3 i = 1#1) (h4 : ¬k0_cond4 i = 1#1)
    (d8 : Vec F S1x1024x512 .f32) (d9 : Vec F S1x1024x512 .bf16) (s : Vec F S1024x2048 .bf16) (E : Set ℕ) (K : PUnit → sProp 𝕄) :
    iprop(held c arg2 arg3 arg4 arg5 arg6 arg7 arg8 arg9 arg10 arg11 arg12 x0 x1 x2 x3 x4 x5 x6 x7 d8 d9 s
        ∗ (held c arg2 arg3 arg4 arg5 arg6 arg7 arg8 arg9 arg10 arg11 arg12 x0 x1 x2 x3 x4 x5 x6 x7
            (k0_pay3 (normed x0 x1 x2 x3) x4) d9 (normed x0 x1 x2 x3) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact h1 | sl_exact h2 | sl_exact h3 | sl_exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    refine (View.read_writes_full _ _ _ _ _).trans (congrArg₂ k0_pay3 ?_ (load_full harg6 x4 _))
    exact (View.readAt_full arg12.view _ inb_S1024x2048_S1024x2048_0_0).trans
      (rows_all c i arg2 harg2 arg3 harg3 arg4 harg4 arg5 harg5 arg6 harg6 arg7 harg7 arg8 harg8 arg9 harg9 arg10 harg10 arg11 harg11 arg12 harg12 x0 x1 x2 x3 h1 _)
  isplitl [H9]
  · iexists _; isplitr; · ipureintro; exact hf9
    iexact H9
  iexists _; isplitr
  swap; · iexact HS
  ipureintro
  exact rows_all c i arg2 harg2 arg3 harg3 arg4 harg4 arg5 harg5 arg6 harg6 arg7 harg7 arg8 harg8 arg9 harg9 arg10 harg10 arg11 harg11 arg12 harg12 x0 x1 x2 x3 h1 _

set_option maxHeartbeats 1000000 in
/-- At a later point with a float32 block: it is stored, from the rows as found. -/
theorem run_f32 (h1 : ¬k0_cond1 i = 1#1) (h2 : k0_cond2 i = 1#1) (h3 : ¬k0_cond3 i = 1#1) (h4 : ¬k0_cond4 i = 1#1)
    (d8 : Vec F S1x1024x512 .f32) (d9 : Vec F S1x1024x512 .bf16) (s : Vec F S1024x2048 .bf16) (E : Set ℕ) (K : PUnit → sProp 𝕄) :
    iprop(held c arg2 arg3 arg4 arg5 arg6 arg7 arg8 arg9 arg10 arg11 arg12 x0 x1 x2 x3 x4 x5 x6 x7 d8 d9 s
        ∗ (held c arg2 arg3 arg4 arg5 arg6 arg7 arg8 arg9 arg10 arg11 arg12 x0 x1 x2 x3 x4 x5 x6 x7
            (k0_pay3 s x4) d9 s -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel held
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩⟩, Hk⟩
  obtain rfl := harg6.eq_unread hf4; obtain rfl := harg7.eq_unread hf5; obtain rfl := harg8.eq_unread hf6
  obtain rfl := harg9.eq_unread hf7; obtain rfl := harg12.eq_unread hfs
  sl_exec (disch := first | sl_exact h1 | sl_exact h2 | sl_exact h3 | sl_exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    exact (View.read_writes_full _ _ _ _ _).trans (congrArg₂ k0_pay3 (load_full harg12 s _) (load_full harg6 x4 _))
  isplitl [H9]
  · iexists _; isplitr; · ipureintro; exact hf9
    iexact H9
  iexists _; isplitr; · ipureintro; exact hfs
  iexact HS

set_option maxHeartbeats 1000000 in
/-- At a point with a block of queries or keys. -/
theorem run_turned (h1 : ¬k0_cond1 i = 1#1) (h2 : ¬k0_cond2 i = 1#1) (h3 : k0_cond3 i = 1#1) (h4 : ¬k0_cond4 i = 1#1)
    (d8 : Vec F S1x1024x512 .f32) (d9 : Vec F S1x1024x512 .bf16) (s : Vec F S1024x2048 .bf16) (E : Set ℕ) (K : PUnit → sProp 𝕄) :
    iprop(held c arg2 arg3 arg4 arg5 arg6 arg7 arg8 arg9 arg10 arg11 arg12 x0 x1 x2 x3 x4 x5 x6 x7 d8 d9 s
        ∗ (held c arg2 arg3 arg4 arg5 arg6 arg7 arg8 arg9 arg10 arg11 arg12 x0 x1 x2 x3 x4 x5 x6 x7
            d8 (turned (BitVec.ofNat 32 (i 1).val) s x4 x5 x6 x7) s -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel held
  simp only [k0_part1_eq_skeleton]; unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩⟩, Hk⟩
  obtain rfl := harg6.eq_unread hf4; obtain rfl := harg7.eq_unread hf5; obtain rfl := harg8.eq_unread hf6
  obtain rfl := harg9.eq_unread hf7; obtain rfl := harg12.eq_unread hfs
  sl_exec (disch := first | sl_exact h1 | sl_exact h2 | sl_exact h3 | sl_exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    have e : turned (BitVec.ofNat 32 (i 1).val) s x4 x5 x6 x7 = turned (BitVec.ofNat 32 (i 1).val)
        (arg12.view.readAt (Elt F) (Rect.unit (s := S1024x2048) ![0, 0] S1024x2048.size inb_S1024x2048_S1024x2048_0_0).toLoadRect (harg12.unread s))
        (arg6.view.readAt (Elt F) (Rect.unit (s := S1x2048x512) ![0, 0, 0] S1x2048x512.size inb_S1x2048x512_S1x2048x512_0_0_0).toLoadRect (harg6.unread x4))
        (arg7.view.readAt (Elt F) (Rect.unit (s := S1024x128) ![0, 0] S1024x128.size inb_S1024x128_S1024x128_0_0).toLoadRect (harg7.unread x5))
        (arg8.view.readAt (Elt F) (Rect.unit (s := S1024x128) ![0, 0] S1024x128.size inb_S1024x128_S1024x128_0_0).toLoadRect (harg8.unread x6))
        (arg9.view.readAt (Elt F) (Rect.unit (s := S1024x128) ![0, 0] S1024x128.size inb_S1024x128_S1024x128_0_0).toLoadRect (harg9.unread x7)) := by
      rw [load_full, load_full, load_full, load_full, load_full]
    rw [e]
    exact View.read_writes_eq_canon _ _ _ fun y => View.cover_of_tiledBy _ ![1, 1024, 128] (by sl_kernel_rfl) y
  iexists _; isplitr; · ipureintro; exact hfs
  iexact HS

set_option maxHeartbeats 1000000 in
/-- At a point with a block of values. -/
theorem run_values (h1 : ¬k0_cond1 i = 1#1) (h2 : ¬k0_cond2 i = 1#1) (h3 : ¬k0_cond3 i = 1#1) (h4 : k0_cond4 i = 1#1)
    (d8 : Vec F S1x1024x512 .f32) (d9 : Vec F S1x1024x512 .bf16) (s : Vec F S1024x2048 .bf16) (E : Set ℕ) (K : PUnit → sProp 𝕄) :
    iprop(held c arg2 arg3 arg4 arg5 arg6 arg7 arg8 arg9 arg10 arg11 arg12 x0 x1 x2 x3 x4 x5 x6 x7 d8 d9 s
        ∗ (held c arg2 arg3 arg4 arg5 arg6 arg7 arg8 arg9 arg10 arg11 arg12 x0 x1 x2 x3 x4 x5 x6 x7
            d8 (k0_pay6 s x4) s -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel held
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩⟩, Hk⟩
  obtain rfl := harg6.eq_unread hf4; obtain rfl := harg7.eq_unread hf5; obtain rfl := harg8.eq_unread hf6
  obtain rfl := harg9.eq_unread hf7; obtain rfl := harg12.eq_unread hfs
  sl_exec (disch := first | sl_exact h1 | sl_exact h2 | sl_exact h3 | sl_exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    exact (View.read_writes_full _ _ _ _ _).trans (congrArg₂ k0_pay6 (load_full harg12 s _) (load_full harg6 x4 _))
  iexists _; isplitr; · ipureintro; exact hfs
  iexact HS

end Run

end Cert.Kernel2Ideal.In

end
-- ==== Proof.InFrame.lean ====
/- The input projection's run over its 520 points: what each output's buffer holds after each point, the
   scratch rows carried from a sequence half's first point to its last, and the frame. -/
module

public import proofs.«01_k».proof.Proof.InBody
public import Idealize.ShloMosaic.Lib.Pipeline.TableIdle
public import Idealize.ShloMosaic.Lib.Claim

@[expose] public section

set_option maxRecDepth 16384

noncomputable section

namespace Cert.Kernel2Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-! ## The points -/

theorem lt_520 (t : Fin cfg0.N) : t.val < 520 := lt_of_lt_of_eq t.isLt N_0

theorem first_iff : ∀ t : Fin cfg0.N, k0_cond1 (grid0.coords t) = 1#1 ↔ t.val % 13 = 0 := by decide +kernel
theorem f32_iff : ∀ t : Fin cfg0.N, k0_cond2 (grid0.coords t) = 1#1 ↔ ¬(5 ≤ t.val % 13 ∧ t.val % 13 < 11) := by decide +kernel
theorem turned_iff : ∀ t : Fin cfg0.N, k0_cond3 (grid0.coords t) = 1#1 ↔ (5 ≤ t.val % 13 ∧ t.val % 13 < 9) := by decide +kernel
theorem values_iff : ∀ t : Fin cfg0.N, k0_cond4 (grid0.coords t) = 1#1 ↔ (9 ≤ t.val % 13 ∧ t.val % 13 < 11) := by decide +kernel
theorem idle8_iff : ∀ t : Fin cfg0.N, cfg0.idle 8 (grid0.coords t) = decide (5 ≤ t.val % 13 ∧ t.val % 13 < 11) := by decide +kernel
theorem idle9_iff : ∀ t : Fin cfg0.N, cfg0.idle 9 (grid0.coords t) = !decide (5 ≤ t.val % 13 ∧ t.val % 13 < 11) := by decide +kernel
theorem flush8_iff : ∀ t : Fin cfg0.N, (cfg0.win 8).flush t = !decide (4 ≤ t.val % 13 ∧ t.val % 13 < 10) := by decide +kernel
theorem flush9_iff : ∀ t : Fin cfg0.N, (cfg0.win 9).flush t = decide (5 ≤ t.val % 13 ∧ t.val % 13 ≠ 10 ∧ t.val % 13 ≠ 11) := by decide +kernel

/-- The first point of the sequence half a point belongs to, and that half's `j`-th point. -/
def at_ (t : Fin cfg0.N) (j : Fin 13) : Fin cfg0.N :=
  ⟨13 * (t.val / 13) + j.val, lt_of_lt_of_eq (by have := lt_520 t; have := j.isLt; omega) (show 520 = cfg0.N from N_0.symm)⟩

variable (m : (ℓ : Loc nD τ sig) → Buf (Elt F) ℓ) (ρ : Dev nD → PrngReg)

/-- The rows the scratch holds from a half's first point on. -/
def rows (c : Dev nD) (t : Fin cfg0.N) : Vec F S1024x2048 .bf16 :=
  normed (iblk m c 0 (at_ t 0)) (iblk m c 1 (at_ t 0)) (iblk m c 2 (at_ t 0)) (iblk m c 3 (at_ t 0))

/-- The float32 block a point computes. -/
def out8 (c : Dev nD) (t : Fin cfg0.N) : Vec F S1x1024x512 .f32 := k0_pay3 (rows m c t) (iblk m c 4 t)

/-- The bfloat16 block a point computes. -/
def out9 (c : Dev nD) (t : Fin cfg0.N) : Vec F S1x1024x512 .bf16 :=
  if t.val % 13 < 9 then
    turned (BitVec.ofNat 32 (grid0.coords t 1).val) (rows m c t) (iblk m c 4 t) (iblk m c 5 t) (iblk m c 6 t) (iblk m c 7 t)
  else k0_pay6 (rows m c t) (iblk m c 4 t)

/-- The point whose float32 block the buffer holds after a point: a point without one keeps the fifth's. -/
def from8 (t : Fin cfg0.N) : Fin cfg0.N := if 5 ≤ t.val % 13 ∧ t.val % 13 < 11 then at_ t 4 else t
/-- The point whose bfloat16 block the buffer holds after a point, from the sixth on. -/
def from9 (t : Fin cfg0.N) : Fin cfg0.N := if 11 ≤ t.val % 13 then at_ t 10 else t

/-- The scratch, the whole memref. -/
abbrev scr : Memref sig .tc .vmem S1024x2048 .bf16 := Memref.whole cc0_scratch0

/-- Between points: the scratch at some rows — the half's own, unless a new half begins — and the generator register. -/
def Phi (c : Dev nD) (n : ℕ) : sProp 𝕄 :=
  iprop((∃ s, owns (c : Thread nD τ) scr fullShare s ∗ ⌜∀ h : n < cfg0.N, n % 13 ≠ 0 → s = rows m c ⟨n, h⟩⌝) ∗ (∃ r, prngReg c r))

/-- The proof data: inputs stay at their blocks, the outputs hold the block last computed for them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 m c (from8 t)
    | ⟨9, _⟩ => out9 m c (from9 t)
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out8 m c (from8 t) := by dsimp only [dats]
theorem after_9 (c : Dev nD) (t : Fin cfg0.N) : (dats m 0 c).after 9 t = out9 m c (from9 t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-! ## What the idle points carry -/

theorem fetch8 (t : Fin cfg0.N) : (cfg0.win 8).fetch t = false := rfl
theorem fetch9 (t : Fin cfg0.N) : (cfg0.win 9).fetch t = false := rfl

/-- At a half's eleventh point the float32 buffer still holds the fifth point's block. -/
theorem kept8 (c : Dev nD) (t : Fin cfg0.N) (ht : t.val % 13 = 10) (d) :
    (dats m 0 c).before 8 t d = out8 m c (at_ t 4) := by
  rw [(dats m 0 c).before_idle_run 8 fetch8 d 5 t (by omega) fun j h1 h2 => by
    rw [idle8_iff, flush8_iff]; constructor <;> simp <;> omega]
  rw [(dats m 0 c).before_of_pos 8 _ (by simp only; omega) (fetch8 _) d, flush8_iff, if_neg (by simp; omega)]
  unfold Dat.left
  rw [idle8_iff, decide_eq_false (by simp only; omega)]
  show (cfg0.win 8).fill _ _ ((cfg0.win 8).cut _ ((dats m 0 c).after 8 _)) = _
  rw [Pipeline.fill_of_clip_none (cfg := cfg0) 8 _ (fun _ => rfl) d ((dats m 0 c).after 8 _), (cfg0.win 8).fill_cut, after_8]
  refine congrArg (out8 m c) (Fin.ext ?_)
  unfold from8 at_
  rw [if_neg (by simp only; omega)]
  show t.val - 5 - 1 = 13 * (t.val / 13) + 4
  omega

/-- At a half's last point the bfloat16 buffer still holds the eleventh point's block. -/
theorem kept9 (c : Dev nD) (t : Fin cfg0.N) (ht : t.val % 13 = 12) (d) :
    (dats m 0 c).before 9 t d = out9 m c (at_ t 10) := by
  rw [(dats m 0 c).before_idle_run 9 fetch9 d 1 t (by omega) fun j h1 h2 => by
    rw [idle9_iff, flush9_iff]; constructor <;> simp <;> omega]
  rw [(dats m 0 c).before_of_pos 9 _ (by simp only; omega) (fetch9 _) d, flush9_iff, if_neg (by simp; omega)]
  unfold Dat.left
  rw [idle9_iff, decide_eq_true (by simp only; omega)]
  show (cfg0.win 9).fill _ _ ((cfg0.win 9).cut _ ((dats m 0 c).after 9 _)) = _
  rw [Pipeline.fill_of_clip_none (cfg := cfg0) 9 _ (fun _ => rfl) d ((dats m 0 c).after 9 _), (cfg0.win 9).fill_cut, after_9]
  refine congrArg (out9 m c) (Fin.ext ?_)
  unfold from9 at_
  rw [if_neg (by simp only; omega)]
  show t.val - 1 - 1 = 13 * (t.val / 13) + 10
  omega

/-! ## The body at every point -/

theorem scratch_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The half's rows are the same at every point of the half. -/
theorem rows_next (c : Dev nD) (t : Fin cfg0.N) (h : t.val + 1 < cfg0.N) (hj : (t.val + 1) % 13 ≠ 0) :
    rows m c ⟨t.val + 1, h⟩ = rows m c t := by
  have e : at_ ⟨t.val + 1, h⟩ 0 = at_ t 0 := Fin.ext (by show 13 * ((t.val + 1) / 13) + 0 = 13 * (t.val / 13) + 0; omega)
  unfold rows; rw [e]

/-- A half's first point norms its own rows. -/
theorem rows_first (c : Dev nD) (t : Fin cfg0.N) (h : t.val % 13 = 0) :
    rows m c t = normed (iblk m c 0 t) (iblk m c 1 t) (iblk m c 2 t) (iblk m c 3 t) := by
  have e : at_ t 0 = t := Fin.ext (by show 13 * (t.val / 13) + 0 = t.val; omega)
  unfold rows; rw [e]

/-- The body at a point, whatever the point: given what it does to its buffers, with what the outputs' buffers
    then hold as the point asks. -/
theorem body_at (c : Dev nD) (t : Fin cfg0.N)
    (o8 : Vec F S1x1024x512 .f32 → Vec F S1x1024x512 .f32) (o9 : Vec F S1x1024x512 .bf16 → Vec F S1x1024x512 .bf16)
    (run : ∀ d8 d9 s (K : PUnit → sProp 𝕄), (t.val % 13 ≠ 0 → s = rows m c t) →
      iprop(held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) scr
            (iblk m c 0 t) (iblk m c 1 t) (iblk m c 2 t) (iblk m c 3 t) (iblk m c 4 t) (iblk m c 5 t) (iblk m c 6 t) (iblk m c 7 t) d8 d9 s
          ∗ (held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) scr
            (iblk m c 0 t) (iblk m c 1 t) (iblk m c 2 t) (iblk m c 3 t) (iblk m c 4 t) (iblk m c 5 t) (iblk m c 6 t) (iblk m c 7 t) (o8 d8) (o9 d9) (rows m c t) -∗ K ⟨⟩))
        ⊢ wp frame (wpE (defs₀ (F := F)) Variants.none c none) Set.univ (bodyAt0 t) K)
    (h8 : ∀ d, (owns (c : Thread nD τ) (win0_8.stage (cfg0.slots t 8)) fullShare (o8 ((dats m 0 c).before 8 t d)) : sProp 𝕄) ⊢ (dats m 0 c).leavesExact 8 t)
    (h9 : ∀ d, (owns (c : Thread nD τ) (win0_9.stage (cfg0.slots t 9)) fullShare (o9 ((dats m 0 c).before 9 t d)) : sProp 𝕄) ⊢ (dats m 0 c).leavesExact 9 t) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))
      ∗ (∃ d, owns (c : Thread nD τ) (win0_9.stage (cfg0.slots t 9)) fullShare ((dats m 0 c).before 9 t d)))
    ⊢ wp frame (wpE (defs₀ (F := F)) Variants.none c none) Set.univ (bodyAt0 t) fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t ∗ (dats m 0 c).leavesExact 5 t
        ∗ (dats m 0 c).leavesExact 6 t ∗ (dats m 0 c).leavesExact 7 t ∗ (dats m 0 c).leavesExact 8 t
        ∗ (dats m 0 c).leavesExact 9 t) := by
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  simp only [before_0, before_1, before_2, before_3, before_4, before_5, before_6, before_7]
  rw [show (dats m 0 c).leavesExact 0 t = owns (c : Thread nD τ) (win0_0.stage (cfg0.slots t 0)) fullShare (iblk m c 0 t) from by
    show owns _ _ _ ((dats m 0 c).after 0 t) = _; rw [after_0]]
  rw [show (dats m 0 c).leavesExact 1 t = owns (c : Thread nD τ) (win0_1.stage (cfg0.slots t 1)) fullShare (iblk m c 1 t) from by
    show owns _ _ _ ((dats m 0 c).after 1 t) = _; rw [after_1]]
  rw [show (dats m 0 c).leavesExact 2 t = owns (c : Thread nD τ) (win0_2.stage (cfg0.slots t 2)) fullShare (iblk m c 2 t) from by
    show owns _ _ _ ((dats m 0 c).after 2 t) = _; rw [after_2]]
  rw [show (dats m 0 c).leavesExact 3 t = owns (c : Thread nD τ) (win0_3.stage (cfg0.slots t 3)) fullShare (iblk m c 3 t) from by
    show owns _ _ _ ((dats m 0 c).after 3 t) = _; rw [after_3]]
  rw [show (dats m 0 c).leavesExact 4 t = owns (c : Thread nD τ) (win0_4.stage (cfg0.slots t 4)) fullShare (iblk m c 4 t) from by
    show owns _ _ _ ((dats m 0 c).after 4 t) = _; rw [after_4]]
  rw [show (dats m 0 c).leavesExact 5 t = owns (c : Thread nD τ) (win0_5.stage (cfg0.slots t 5)) fullShare (iblk m c 5 t) from by
    show owns _ _ _ ((dats m 0 c).after 5 t) = _; rw [after_5]]
  rw [show (dats m 0 c).leavesExact 6 t = owns (c : Thread nD τ) (win0_6.stage (cfg0.slots t 6)) fullShare (iblk m c 6 t) from by
    show owns _ _ _ ((dats m 0 c).after 6 t) = _; rw [after_6]]
  rw [show (dats m 0 c).leavesExact 7 t = owns (c : Thread nD τ) (win0_7.stage (cfg0.slots t 7)) fullShare (iblk m c 7 t) from by
    show owns _ _ _ ((dats m 0 c).after 7 t) = _; rw [after_7]]
  unfold Phi
  iintro ⟨⟨⟨%s, HS, %hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run ((dats m 0 c).before 8 t d8) ((dats m 0 c).before 9 t d9) s _ (fun h => hs t.isLt h))
  unfold held
  isplitl [H0 H1 H2 H3 H4 H5 H6 H7 H8 H9 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iintro ⟨H0, H1, H2, H3, H4, H5, H6, H7, H8, H9, HS⟩
  isplitl [HS Hg]
  · isplitl [HS]
    · iexists _; isplitl [HS]; · iexact HS
      ipureintro
      intro h hj
      exact (rows_next m c t h hj).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (h8 d8); iexact H8
  iapply (h9 d9); iexact H9

/-- The body obligation: four kinds of point. -/
theorem body_obligation (c : Dev nD) : BodyObligation (dats (F := F) m 0 c) (defs₀ (F := F)) Variants.none () Set.univ := fun t => by
  rw [bigSep_W0, bigSep_W0, show (defs₀ (F := F)) .tc cfg0.body (cfg0.bodyArgs t (cfg0.slots t)) = bodyAt0 t from by unfold defs₀; rw [Defs.onTc_tc]]
  have hN := lt_520 t
  have own8 : ¬(5 ≤ t.val % 13 ∧ t.val % 13 < 11) →
      (dats m 0 c).leavesExact 8 t = owns (c : Thread nD τ) (win0_8.stage (cfg0.slots t 8)) fullShare (out8 m c t) := fun h => by
    unfold Dat.leavesExact; rw [idle8_iff, decide_eq_false h, after_8]
    unfold from8; rw [if_neg h]
  have own9 : (5 ≤ t.val % 13 ∧ t.val % 13 < 11) →
      (dats m 0 c).leavesExact 9 t = owns (c : Thread nD τ) (win0_9.stage (cfg0.slots t 9)) fullShare (out9 m c t) := fun h => by
    unfold Dat.leavesExact; rw [idle9_iff, decide_eq_true h, after_9]
    unfold from9; rw [if_neg (by omega)]; rfl
  have kept8' : (5 ≤ t.val % 13 ∧ t.val % 13 < 11) → ∀ d,
      (owns (c : Thread nD τ) (win0_8.stage (cfg0.slots t 8)) fullShare ((dats m 0 c).before 8 t d) : sProp 𝕄) ⊢ (dats m 0 c).leavesExact 8 t := fun h d => by
    unfold Dat.leavesExact; rw [idle8_iff, decide_eq_true h, flush8_iff]
    by_cases h10 : t.val % 13 = 10
    · rw [decide_eq_false (by omega), kept8 m c t h10 d, after_8]
      unfold from8; rw [if_pos h]
      exact Entails.refl _
    · rw [decide_eq_true (by omega)]
      exact exists_intro (Φ := fun d => owns _ _ _ _) d
  have kept9' : ¬(5 ≤ t.val % 13 ∧ t.val % 13 < 11) → ∀ d,
      (owns (c : Thread nD τ) (win0_9.stage (cfg0.slots t 9)) fullShare ((dats m 0 c).before 9 t d) : sProp 𝕄) ⊢ (dats m 0 c).leavesExact 9 t := fun h d => by
    unfold Dat.leavesExact; rw [idle9_iff, decide_eq_false h, flush9_iff]
    by_cases h12 : t.val % 13 = 12
    · rw [decide_eq_true (by omega), kept9 m c t h12 d, after_9]
      unfold from9; rw [if_pos (by omega)]
      exact Entails.refl _
    · rw [decide_eq_false (by omega)]
      exact exists_intro (Φ := fun d => owns _ _ _ _) d
  by_cases h5 : 5 ≤ t.val % 13 ∧ t.val % 13 < 11
  · by_cases h9 : t.val % 13 < 9
    · refine body_at m c t id (fun _ => out9 m c t) (fun d8 d9 s K hs => ?_) (kept8' h5) (fun d => by rw [own9 h5])
      obtain rfl := hs (by omega)
      have e : out9 m c t = _ := if_pos h9
      rw [e]
      exact run_turned c (grid0.coords t) _ _ _ _ _ _ _ _ _ _ _ _ _ _ _ _ _ _ _ _ _ _ _ _ _ _ _ _ _ _
        (mt (first_iff t).mp (by omega)) (mt (f32_iff t).mp (by omega)) ((turned_iff t).mpr (by omega)) (mt (values_iff t).mp (by omega)) d8 d9 _ _ K
    · refine body_at m c t id (fun _ => out9 m c t) (fun d8 d9 s K hs => ?_) (kept8' h5) (fun d => by rw [own9 h5])
      obtain rfl := hs (by omega)
      have e : out9 m c t = _ := if_neg h9
      rw [e]
      exact run_values c (grid0.coords t) _ _ _ _ _ _ _ _ _ _ _ _ _ _ _ _ _ _ _ _ _ _ _ _ _ _ _ _ _ _
        (mt (first_iff t).mp (by omega)) (mt (f32_iff t).mp (by omega)) (mt (turned_iff t).mp (by omega)) ((values_iff t).mpr (by omega)) d8 d9 _ _ K
  · refine body_at m c t (fun _ => out8 m c t) id (fun d8 d9 s K hs => ?_) (fun d => by rw [own8 h5]) (kept9' h5)
    by_cases h0 : t.val % 13 = 0
    · unfold out8
      rw [rows_first m c t h0]
      exact run_first c (grid0.coords t) _ _ _ _ _ _ _ _ _ _ _ _ _ _ _ _ _ _ _ _ _ _ _ _ _ _ _ _ _ _
        ((first_iff t).mpr h0) ((f32_iff t).mpr h5) (mt (turned_iff t).mp (by omega)) (mt (values_iff t).mp (by omega)) d8 d9 s _ K
    · obtain rfl := hs h0
      exact run_f32 c (grid0.coords t) _ _ _ _ _ _ _ _ _ _ _ _ _ _ _ _ _ _ _ _ _ _ _ _ _ _ _ _ _ _
        (mt (first_iff t).mp h0) ((f32_iff t).mpr h5) (mt (turned_iff t).mp (by omega)) (mt (values_iff t).mp (by omega)) d8 d9 _ _ K

theorem hin (c : Dev nD) : Pipeline.ΦA spec0 c ⊢ (dats m 0 c).Φ 0 := by
  rw [show (dats m 0 c).Φ 0 = Phi m c 0 from rfl, scratch_eq]; unfold Phi
  iintro ⟨⟨%d, H⟩, Hg⟩
  isplitl [H]
  · iexists _; isplitl [H]; · iexact H
    ipureintro; intro _ h; exact absurd rfl h
  iexact Hg

theorem hout (c : Dev nD) : (dats m 0 c).Φ (Fin.last cfg0.N) ⊢ Pipeline.ΦA spec0 c := by
  rw [show (dats m 0 c).Φ (Fin.last cfg0.N) = Phi m c cfg0.N from rfl, scratch_eq]; unfold Phi
  iintro ⟨⟨%d, H, -⟩, Hg⟩
  isplitl [H]
  · iexists _; iexact H
  iexact Hg

/-! ## The run and the frame -/

set_option backward.isDefEq.respectTransparency.types false in
/-- Every execution ends, with every array at what the points wrote back and no semaphore counting. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged, and no semaphore counts. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.In

end
-- ==== Proof.InMath.lean ====
/- The input projection's mathematics on extended reals: the hidden rows, their projected columns, and the turning
   of a head's first sixteen lanes — once as the reference writes it, lane by lane, and once as three products with
   tables of cosines and signed sines, of which two lanes' worth are zero. -/
module

public import Idealize.ShloMosaic.Lib.Pointwise
public import Idealize.ShloMosaic.Lib.Pipeline.ValueKit

@[expose] public section

noncomputable section

namespace Cert.In

open Idealize.ShloMosaic

variable (x : Vec Ideal ⟨3, ![20, 2048, 2048]⟩ .f32) (nw : Vec Ideal ⟨1, ![2048]⟩ .f32)
  (sc sh : Vec Ideal ⟨3, ![20, 1, 2048]⟩ .f32) (w : Vec Ideal ⟨3, ![2, 2048, 6656]⟩ .bf16)
  (g : Fin 2)

/-- Sequence `b`'s row `l` at lane `k`: normed, weighed, scaled and shifted. -/
def hidden (b : Fin 20) (l k : Fin 2048) : EReal :=
  x (ix3 b l k)
      * Ideal.rsqrt (Ideal.div (∑ n, x (ix3 b l n) * x (ix3 b l n)) (Ideal.ofBits .f32 0x45000000#32)
          + Ideal.ofBits .f32 0x358637BD#32)
      * nw (ix1 k) * (1 + sc (ix3 b 0 k)) + sh (ix3 b 0 k)

/-- That row's column `c`, by layer `g`'s weights. -/
def proj (b : Fin 20) (l : Fin 2048) (c : Fin 6656) : EReal :=
  ∑ k, hidden x nw sc sh b l k * w (ix3 g k c)

/-- The angle row `l` turns its `k`-th pair of lanes by. -/
def angle (l : Fin 2048) (k : Fin 8) : EReal :=
  FloatOps.sitofp (F := Ideal) .f32 (BitVec.ofNat 32 l.val)
    * Ideal.pow (Ideal.ofBits .f32 0x48F42400#32)
        (Ideal.div (-FloatOps.sitofp (F := Ideal) .f32 (BitVec.ofNat 32 k.val)) (Ideal.ofBits .f32 0x41000000#32))

/-- A half head of 64 lanes, its first eight lanes turned against its next eight. -/
def turn (l : Fin 2048) (p : Fin 64 → EReal) (d : Fin 64) : EReal :=
  if h : d.val < 8 then
    p d * Ideal.cos (angle l ⟨d.val, h⟩) - p ⟨8 + d.val, by omega⟩ * Ideal.sin (angle l ⟨d.val, h⟩)
  else if h' : d.val < 16 then
    p d * Ideal.cos (angle l ⟨d.val - 8, by omega⟩) + p ⟨d.val - 8, by omega⟩ * Ideal.sin (angle l ⟨d.val - 8, by omega⟩)
  else p d

/-- The three tables, over two half heads: a lane's own factor, the factor of the lane eight above, and of the lane
    eight below. -/
def own (l : Fin 2048) (d : Fin 128) : EReal :=
  if h : d.val % 64 < 8 then Ideal.cos (angle l ⟨d.val % 64, h⟩)
  else if h' : d.val % 64 < 16 then Ideal.cos (angle l ⟨d.val % 64 - 8, by omega⟩) else 1
def above (l : Fin 2048) (d : Fin 128) : EReal :=
  if h : d.val % 64 < 8 then -Ideal.sin (angle l ⟨d.val % 64, h⟩) else 0
def below (l : Fin 2048) (d : Fin 128) : EReal :=
  if h : d.val % 64 < 8 then 0
  else if h' : d.val % 64 < 16 then Ideal.sin (angle l ⟨d.val % 64 - 8, by omega⟩) else 0

/-- Two half heads times the tables, rolled up and down by eight lanes, are the two half heads turned. -/
theorem turned_lanes (l : Fin 2048) (q : Fin 128 → EReal) (d : Fin 128) :
    q d * own l d + q ⟨(d.val + 128 - 120) % 128, by omega⟩ * above l d + q ⟨(d.val + 128 - 8) % 128, by omega⟩ * below l d
      = turn l (fun e => q ⟨64 * (d.val / 64) + e.val, by omega⟩) ⟨d.val % 64, by omega⟩ := by
  have self : (⟨64 * (d.val / 64) + d.val % 64, by omega⟩ : Fin 128) = d := Fin.ext (by show 64 * (d.val / 64) + d.val % 64 = d.val; omega)
  unfold own above below turn
  by_cases h : d.val % 64 < 8
  · rw [dif_pos h, dif_pos h, dif_pos h, dif_pos h, mul_zero, add_zero, mul_neg, ← sub_eq_add_neg]
    dsimp only
    rw [self]
    congr 4
    omega
  · by_cases h' : d.val % 64 < 16
    · rw [dif_neg h, dif_neg h, dif_neg h, dif_neg h, dif_pos h', dif_pos h', dif_pos h', mul_zero, add_zero]
      dsimp only
      rw [self]
      congr 4
      omega
    · rw [dif_neg h, dif_neg h, dif_neg h, dif_neg h, dif_neg h', dif_neg h', dif_neg h', mul_zero, mul_zero, add_zero, add_zero, mul_one]
      dsimp only
      rw [self]

/-- The float32 result: every column but those of the queries, keys and values. -/
def rest : (⟨3, ![20, 2048, 3584]⟩ : Shape).Idx → EReal := fun i =>
  have h : (i 2).val < 3584 := (i 2).isLt
  proj x nw sc sh w g (i 0) (i 1) (if (i 2).val < 2560 then ⟨(i 2).val, by omega⟩ else ⟨3072 + (i 2).val, by omega⟩)

/-- The bfloat16 result: the queries turned and scaled, the keys turned, the values. -/
def heads : (⟨3, ![20, 2048, 3072]⟩ : Shape).Idx → EReal := fun i =>
  have h : (i 2).val < 3072 := (i 2).isLt
  if h : (i 2).val < 2048 then
    turn (i 1) (fun e => proj x nw sc sh w g (i 0) (i 1) ⟨2560 + (64 * ((i 2).val / 64) + e.val), by omega⟩) ⟨(i 2).val % 64, by omega⟩
      * if (i 2).val < 1024 then Ideal.ofBits .f32 0x3E38AA3B#32 else 1
  else proj x nw sc sh w g (i 0) (i 1) ⟨2560 + (i 2).val, by omega⟩

end Cert.In

end
-- ==== Proof.InTables.lean ====
/- The input projection's arrays when its grid begins: the three tables of angles, and the weight as one row. -/
module

public import proofs.«01_k».proof.Proof.InFrame
public import proofs.«01_k».proof.Proof.InMath
public import Idealize.ShloMosaic.Lib.Pipeline.Value

@[expose] public section

set_option maxRecDepth 16384

noncomputable section

namespace Cert.Kernel2Ideal.In

open Cert.Kernel2Ideal Cert.Kernel2Ideal.Gen Idealize.ShloMosaic Idealize.ShloMosaic.TcCoe Idealize.SL.Sem
open Idealize.ShloMosaic.Pipeline (Dat)
open Cert.In

variable (m : (ℓ : Loc nD τ sig) → Buf (Elt Ideal) ℓ)

theorem weight_row (c : Dev nD) (k : Fin 2048) :
    V m c main_v30 (ix2 0 k) = m ((c : Thread nD τ).loc main_arg1) (ix1 k) := by
  unfold_abbrev_sides
  after_results
  pointwise []

theorem own_table (c : Dev nD) (l : Fin 2048) (d : Fin 128) : V m c main_v20 (ix2 l d) = own l d := by
  unfold_abbrev_sides
  after_results
  pointwise []
  after_results_simp
  pointwise []
  unfold own angle
  by_cases h : d.val % 64 < 8
  · rw [dif_pos h, dif_pos h]
  · rw [dif_neg h, dif_neg h]
    by_cases h' : d.val % 64 < 16
    · rw [dif_pos (show d.val % 64 - 8 < 8 by omega), dif_pos h']
    · rw [dif_neg (show ¬d.val % 64 - 8 < 8 by omega), dif_neg h']

theorem above_table (c : Dev nD) (l : Fin 2048) (d : Fin 128) : V m c main_v25 (ix2 l d) = above l d := by
  unfold_abbrev_sides
  after_results
  pointwise []
  after_results_simp
  pointwise []
  unfold above angle
  by_cases h : d.val % 64 < 8
  · rw [dif_pos h, dif_pos h]
  · rw [dif_neg h, dif_neg h]
    split <;> rfl

theorem below_table (c : Dev nD) (l : Fin 2048) (d : Fin 128) : V m c main_v29 (ix2 l d) = below l d := by
  unfold_abbrev_sides
  after_results
  pointwise []
  after_results_simp
  pointwise []
  unfold below angle
  by_cases h : d.val % 64 < 8
  · rw [dif_pos h, dif_pos h]
  · rw [dif_neg h, dif_neg h]
    by_cases h' : d.val % 64 < 16
    · rw [dif_pos (show d.val % 64 - 8 < 8 by omega), dif_pos h']
    · rw [dif_neg (show ¬d.val % 64 - 8 < 8 by omega), dif_neg h']

end Cert.Kernel2Ideal.In

end
-- ==== Proof.InReference.lean ====
/- The input projection's reference, element by element, in the words of `InMath`. -/
module

public import proofs.«01_k».proof.Proof.Gen.Reference2Ideal.Read
public import proofs.«01_k».proof.Proof.InMath

@[expose] public section

noncomputable section

namespace Cert.Reference2Ideal.In

open Cert.Reference2Ideal Cert.Reference2Ideal.Gen Idealize.ShloMosaic Idealize.ShloMosaic.TcCoe Idealize.SL.Sem
open Cert.Reference2Ideal.Read
open Cert.In

variable (x0 : Vec Ideal S20x2048x2048 .f32) (x1 : Vec Ideal S2048 .f32) (x2 x3 : Vec Ideal S20x1x2048 .f32)
  (x4 : Vec Ideal S2x2048x6656 .bf16)

theorem hidden_apply (b : Fin 20) (l k : Fin 2048) :
    val_main_v18 (F := Ideal) x0 x1 x2 x3 (ix3 b l k) = Cert.In.hidden x0 x1 x2 x3 b l k := by
  unfold Cert.In.hidden
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2]

theorem proj_apply (b : Fin 20) (l : Fin 2048) (c : Fin 6656) :
    val_main_v22 (F := Ideal) x0 x1 x2 x3 x4 (ix3 b l c) = proj x0 x1 x2 x3 x4 0 b l c := by
  unfold proj
  simp only [← hidden_apply]
  unfold val_main_v22
  generalize val_main_v18 (F := Ideal) x0 x1 x2 x3 = y
  pointwise [val_main_v21, val_main_v20, val_main_v19]

theorem angle_apply (l : Fin 2048) (k : Fin 8) : val_main_v36 (F := Ideal) (ix2 l k) = angle l k := by
  unfold angle
  pointwise [val_main_v36, val_main_v35, val_main_v34, val_main_v33, val_main_v32, val_main_v31, val_main_v30,
    val_main_v29, val_main_v28, val_main_v27, val_main_v26, val_main_v25, val_main_cst_3, val_main_cst_4]

theorem angle_again_apply (l : Fin 2048) (k : Fin 8) : val_main_v69 (F := Ideal) (ix2 l k) = angle l k := by
  unfold angle
  pointwise [val_main_v69, val_main_v68, val_main_v67, val_main_v66, val_main_v65, val_main_v64, val_main_v63,
    val_main_v62, val_main_v61, val_main_v60, val_main_v59, val_main_v58, val_main_cst_5, val_main_cst_6]

/-- The queries, a half head's first sixteen lanes turned. -/
theorem queries_apply (b : Fin 20) (l : Fin 2048) (f : Fin 1024) :
    val_main_v55 (F := Ideal) x0 x1 x2 x3 x4 (ix3 b l f)
      = turn l (fun e => proj x0 x1 x2 x3 x4 0 b l ⟨2560 + (64 * (f.val / 64) + e.val), by omega⟩) ⟨f.val % 64, by omega⟩ := by
  unfold turn
  simp only [← proj_apply x0 x1 x2 x3 x4 b l, ← angle_apply l]
  unfold val_main_v55 val_main_v54 val_main_v53 val_main_v52 val_main_v51 val_main_v49 val_main_v47 val_main_v46 val_main_v44
    val_main_v50 val_main_v48 val_main_v45 val_main_v43 val_main_v42 val_main_v41 val_main_v40 val_main_v39 val_main_v38 val_main_v37 val_main_v24 val_main_v23
  generalize val_main_v22 (F := Ideal) x0 x1 x2 x3 x4 = y
  generalize val_main_v36 (F := Ideal) = z
  pointwise []
  by_cases h : f.val % 64 < 8
  · simp only [h, ↓reduceDIte]
    have e : 2560 + f.val = 2560 + (64 * (f.val / 64) + f.val % 64) := by omega
    have e' : 2560 + (f.val / 128 * 128 + f.val / 64 % 2 * 64 + (8 + f.val % 64)) = 2560 + (64 * (f.val / 64) + (8 + f.val % 64)) := by omega
    simp only [e, e']
  · by_cases h' : f.val % 64 < 16
    · have h2 : f.val % 64 - 8 < 8 := by omega
      simp only [h, h', h2, ↓reduceDIte]
      have e : 2560 + (f.val / 128 * 128 + f.val / 64 % 2 * 64 + (8 + (f.val % 64 - 8))) = 2560 + (64 * (f.val / 64) + f.val % 64) := by omega
      have e' : 2560 + (f.val / 128 * 128 + f.val / 64 % 2 * 64 + (f.val % 64 - 8)) = 2560 + (64 * (f.val / 64) + (f.val % 64 - 8)) := by omega
      simp only [e, e']
    · have h2 : ¬ f.val % 64 - 8 < 8 := by omega
      simp only [h, h', h2, ↓reduceDIte]
      have e : 2560 + (f.val / 128 * 128 + f.val / 64 % 2 * 64 + (16 + (f.val % 64 - 8 - 8))) = 2560 + (64 * (f.val / 64) + f.val % 64) := by omega
      simp only [e]

/-- The keys, likewise. -/
theorem keys_apply (b : Fin 20) (l : Fin 2048) (f : Fin 1024) :
    val_main_v88 (F := Ideal) x0 x1 x2 x3 x4 (ix3 b l f)
      = turn l (fun e => proj x0 x1 x2 x3 x4 0 b l ⟨3584 + (64 * (f.val / 64) + e.val), by omega⟩) ⟨f.val % 64, by omega⟩ := by
  unfold turn
  simp only [← proj_apply x0 x1 x2 x3 x4 b l, ← angle_again_apply l]
  unfold val_main_v88 val_main_v87 val_main_v86 val_main_v85 val_main_v84 val_main_v82 val_main_v80 val_main_v79 val_main_v77
    val_main_v83 val_main_v81 val_main_v78 val_main_v76 val_main_v75 val_main_v74 val_main_v73 val_main_v72 val_main_v71 val_main_v70 val_main_v57 val_main_v56
  generalize val_main_v22 (F := Ideal) x0 x1 x2 x3 x4 = y
  generalize val_main_v69 (F := Ideal) = z
  pointwise []
  by_cases h : f.val % 64 < 8
  · simp only [h, ↓reduceDIte]
    have e : 3584 + f.val = 3584 + (64 * (f.val / 64) + f.val % 64) := by omega
    have e' : 3584 + (f.val / 128 * 128 + f.val / 64 % 2 * 64 + (8 + f.val % 64)) = 3584 + (64 * (f.val / 64) + (8 + f.val % 64)) := by omega
    simp only [e, e']
  · by_cases h' : f.val % 64 < 16
    · have h2 : f.val % 64 - 8 < 8 := by omega
      simp only [h, h', h2, ↓reduceDIte]
      have e : 3584 + (f.val / 128 * 128 + f.val / 64 % 2 * 64 + (8 + (f.val % 64 - 8))) = 3584 + (64 * (f.val / 64) + f.val % 64) := by omega
      have e' : 3584 + (f.val / 128 * 128 + f.val / 64 % 2 * 64 + (f.val % 64 - 8)) = 3584 + (64 * (f.val / 64) + (f.val % 64 - 8)) := by omega
      simp only [e, e']
    · have h2 : ¬ f.val % 64 - 8 < 8 := by omega
      simp only [h, h', h2, ↓reduceDIte]
      have e : 3584 + (f.val / 128 * 128 + f.val / 64 % 2 * 64 + (16 + (f.val % 64 - 8 - 8))) = 3584 + (64 * (f.val / 64) + f.val % 64) := by omega
      simp only [e]

theorem rest_eq : val_main_v94 (F := Ideal) x0 x1 x2 x3 x4 = rest x0 x1 x2 x3 x4 0 := by
  funext i
  obtain ⟨b, l, f, rfl⟩ : ∃ (b : Fin 20) (l : Fin 2048) (f : Fin 3584), i = ix3 b l f := ⟨i 0, i 1, i 2, eq_ix3 i⟩
  show _ = proj x0 x1 x2 x3 x4 0 b l (if f.val < 2560 then ⟨f.val, by omega⟩ else ⟨3072 + f.val, by omega⟩)
  rw [← proj_apply]
  unfold val_main_v94 val_main_v92 val_main_v93
  generalize val_main_v22 (F := Ideal) x0 x1 x2 x3 x4 = y
  pointwise []
  by_cases h : f.val < 2560
  · rw [dif_pos h, if_pos h]
  · rw [dif_neg h, if_neg h]
    exact congrArg (fun c : Fin 6656 => y (ix3 b l c)) (Fin.ext (by show 5632 + (f.val - 2560) = 3072 + f.val; omega))

theorem heads_eq : val_main_v96 (F := Ideal) x0 x1 x2 x3 x4 = heads x0 x1 x2 x3 x4 0 := by
  funext i
  obtain ⟨b, l, f, rfl⟩ : ∃ (b : Fin 20) (l : Fin 2048) (f : Fin 3072), i = ix3 b l f := ⟨i 0, i 1, i 2, eq_ix3 i⟩
  have hq := queries_apply x0 x1 x2 x3 x4 b l
  have hk := keys_apply x0 x1 x2 x3 x4 b l
  have hv := proj_apply x0 x1 x2 x3 x4 b l
  show _ = if h : f.val < 2048 then
      turn l (fun e => proj x0 x1 x2 x3 x4 0 b l ⟨2560 + (64 * (f.val / 64) + e.val), by omega⟩) ⟨f.val % 64, by omega⟩
        * (if f.val < 1024 then Ideal.ofBits .f32 0x3E38AA3B#32 else 1)
    else proj x0 x1 x2 x3 x4 0 b l ⟨2560 + f.val, by omega⟩
  unfold val_main_v96 val_main_v95 val_main_v91 val_main_v89
  generalize val_main_v22 (F := Ideal) x0 x1 x2 x3 x4 = y at hv ⊢
  generalize val_main_v55 (F := Ideal) x0 x1 x2 x3 x4 = q at hq ⊢
  generalize val_main_v88 (F := Ideal) x0 x1 x2 x3 x4 = k at hk ⊢
  pointwise [val_main_v90, val_main_cst_7]
  by_cases h : f.val < 1024
  · rw [dif_pos h, dif_pos (by omega), if_pos h, hq]
  · rw [dif_neg h]
    by_cases h' : f.val < 2048
    · rw [dif_pos (by omega), dif_pos h', if_neg h, mul_one, hk]
      have half : ∀ {p p' : Fin 64 → EReal} {d d' : Fin 64}, p = p' → d = d' → turn l p d = turn l p' d' :=
        fun e e' => by rw [e, e']
      exact half (funext fun e => congrArg (proj x0 x1 x2 x3 x4 0 b l) (Fin.ext (by
          show 3584 + (64 * ((f.val - 1024) / 64) + e.val) = 2560 + (64 * (f.val / 64) + e.val); omega)))
        (Fin.ext (by show (f.val - 1024) % 64 = f.val % 64; omega))
    · rw [dif_neg (by omega), dif_neg h', hv]
      exact congrArg (proj x0 x1 x2 x3 x4 0 b l) (Fin.ext (by show 4608 + (f.val - 1024 - 1024) = 2560 + f.val; omega))

end Cert.Reference2Ideal.In

end
-- ==== Proof.OutMath.lean ====
/- The output projection's mathematics on extended reals, for one token: the mixers' three results side by side
   times the projection, the residual, the next block's hidden row, and the router's probabilities. -/
module

public import proofs.«01_k».proof.Proof.Softmax

@[expose] public section

noncomputable section

namespace Cert.Out

open Idealize.ShloMosaic

/-- A row divided by its root mean square, `N` being its length. -/
def unit {n : Nat} (N : EReal) (f : Fin n → EReal) (k : Fin n) : EReal :=
  f k * Ideal.rsqrt (Ideal.div (∑ j, f j * f j) N + Ideal.ofBits .f32 0x358637BD#32)

/-- What a token's results are computed from: its rows of the three mixers and of the layer's input, and the weights. -/
@[ext] structure Token where
  a : Fin 512 → EReal
  b : Fin 1024 → EReal
  c : Fin 512 → EReal
  x : Fin 2048 → EReal
  gate : Fin 2048 → EReal
  cNorm : Fin 512 → EReal
  w : Fin 2048 → Fin 2048 → EReal
  post : Fin 2048 → EReal
  pre : Fin 2048 → EReal
  scale : Fin 2048 → EReal
  shift : Fin 2048 → EReal
  router : Fin 16 → Fin 2048 → EReal

namespace Token

variable (t : Token)

/-- The three mixers' rows side by side, the third normed. -/
def mixed (k : Fin 2048) : EReal :=
  if h : k.val < 512 then t.a ⟨k.val, h⟩
  else if h' : k.val < 1536 then t.b ⟨k.val - 512, by omega⟩
  else unit (Ideal.ofBits .f32 0x44000000#32) t.c ⟨k.val - 1536, by omega⟩ * t.cNorm ⟨k.val - 1536, by omega⟩

def projected (k : Fin 2048) : EReal := ∑ n, t.mixed n * t.w n k

/-- The row that leaves the mixer. -/
def out (k : Fin 2048) : EReal :=
  t.x k + t.gate k * (unit (Ideal.ofBits .f32 0x45000000#32) t.projected k * t.post k)

/-- The hidden row of the next block. -/
def hidden (k : Fin 2048) : EReal :=
  unit (Ideal.ofBits .f32 0x45000000#32) t.out k * t.pre k * (1 + t.scale k) + t.shift k

def logit (e : Fin 16) : EReal := ∑ k, t.router e k * t.hidden k

/-- The router's probability of expert `e`. -/
def prob (e : Fin 16) : EReal :=
  Ideal.div (Ideal.exp (t.logit e - Attn.rowMax t.logit)) (∑ j, Ideal.exp (t.logit j - Attn.rowMax t.logit))

end Token

/-- Token `i` of the call's arguments at layer `g`, a sequence having 2048 tokens. -/
def tokenAt (x0 : Vec Ideal ⟨2, ![40960, 512]⟩ .bf16) (x1 : Vec Ideal ⟨2, ![40960, 1024]⟩ .bf16)
    (x2 : Vec Ideal ⟨2, ![40960, 512]⟩ .f32) (x3 : Vec Ideal ⟨2, ![40960, 2048]⟩ .f32)
    (x4 : Vec Ideal ⟨3, ![20, 1, 2048]⟩ .f32) (x5 : Vec Ideal ⟨1, ![512]⟩ .f32) (x6 : Vec Ideal ⟨3, ![2, 2048, 2048]⟩ .bf16)
    (x7 x8 : Vec Ideal ⟨1, ![2048]⟩ .f32) (x9 x10 : Vec Ideal ⟨3, ![20, 1, 2048]⟩ .f32)
    (x11 : Vec Ideal ⟨2, ![16, 2048]⟩ .f32) (g : Fin 2) (i : Fin 40960) : Token where
  a k := x0 (ix2 i k)
  b k := x1 (ix2 i k)
  c k := x2 (ix2 i k)
  x k := x3 (ix2 i k)
  gate k := x4 (ix3 ⟨i.val / 2048, by omega⟩ 0 k)
  cNorm k := x5 (ix1 k)
  w n k := x6 (ix3 g n k)
  post k := x7 (ix1 k)
  pre k := x8 (ix1 k)
  scale k := x9 (ix3 ⟨i.val / 2048, by omega⟩ 0 k)
  shift k := x10 (ix3 ⟨i.val / 2048, by omega⟩ 0 k)
  router e k := x11 (ix2 e k)

/-- The three results, each token's in its place. -/
def outs (t : Fin 40960 → Token) : (⟨2, ![40960, 2048]⟩ : Shape).Idx → EReal := fun i => (t (i 0)).out (i 1)
def hiddens (t : Fin 40960 → Token) : (⟨2, ![40960, 2048]⟩ : Shape).Idx → EReal := fun i => (t (i 0)).hidden (i 1)
def probs (t : Fin 40960 → Token) : (⟨2, ![16, 40960]⟩ : Shape).Idx → EReal := fun i => (t (i 1)).prob (i 0)

end Cert.Out

end
-- ==== Proof.OutBlock.lean ====
/- What one grid point of the output projection leaves: 512 tokens' rows and probabilities. -/
module

public import proofs.«01_k».proof.Proof.Gen.Kernel3Ideal.Value
public import Idealize.ShloMosaic.Lib.Pipeline.ValueKit
public import Idealize.ShloMosaic.Lib.Pipeline.ReadBack
public import proofs.«01_k».proof.Proof.Block
public import proofs.«01_k».proof.Proof.OutMath

@[expose] public section

noncomputable section

namespace Cert.Kernel3Ideal.Out

open Cert.Kernel3Ideal Cert.Kernel3Ideal.Gen Idealize.ShloMosaic Idealize.ShloMosaic.TcCoe Idealize.SL.Sem
open Cert.Out

variable (x0 : Vec Ideal S512x512 .bf16) (x1 : Vec Ideal S512x1024 .bf16) (x2 : Vec Ideal S512x512 .f32)
  (x3 : Vec Ideal S512x2048 .f32) (x4 : Vec Ideal S1x1x2048 .f32) (x5 : Vec Ideal S1x512 .f32)
  (x6 : Vec Ideal S1x2048x2048 .bf16) (x7 x8 : Vec Ideal S1x2048 .f32) (x9 x10 : Vec Ideal S1x1x2048 .f32)
  (x11 : Vec Ideal S16x2048 .f32)

/-- The token at row `r` of a point's blocks. -/
def tokenOf (r : Fin 512) : Token where
  a k := x0 (ix2 r k)
  b k := x1 (ix2 r k)
  c k := x2 (ix2 r k)
  x k := x3 (ix2 r k)
  gate k := x4 (ix3 0 0 k)
  cNorm k := x5 (ix2 0 k)
  w n k := x6 (ix3 0 n k)
  post k := x7 (ix2 0 k)
  pre k := x8 (ix2 0 k)
  scale k := x9 (ix3 0 0 k)
  shift k := x10 (ix3 0 0 k)
  router e k := x11 (ix2 e k)

/-- The three mixers' rows side by side, as the kernel stores them. -/
def sides : FVec Ideal S512x2048 .bf16 :=
  concatenate S512x2048 1 [⟨S512x512, x0⟩, ⟨S512x1024, x1⟩, ⟨S512x512, truncf .bf16 (mulf (mulf x2 (broadcastTo S512x512
    (rsqrt (addf (divf (shapeCast S512x1 (multiReduction .add [1] S512 (mulf x2 x2) 0x00000000#32 reduces_S512x512_S512 (.inl rfl) rfl) shapeCasts_S512_S512x1)
      (broadcast S512x1 (Scalar.ofBits .f32 0x44000000#32))) (broadcast S512x1 (Scalar.ofBits .f32 0x358637BD#32)))) broadcasts_S512x1_S512x512))
    (broadcastTo S512x512 (shapeCast S1x512 x5 shapeCasts_S1x512_S1x512) broadcasts_S1x512_S512x512)) bitsLt_bf16_f32⟩]
    concatenates_S512x512_S512x1024_S512x512_S512x2048_d1

theorem sides_apply (r : Fin 512) (k : Fin 2048) :
    sides x0 x1 x2 x5 (ix2 r k) = (tokenOf x0 x1 x2 x3 x4 x5 x6 x7 x8 x9 x10 x11 r).mixed k := by
  unfold Token.mixed unit tokenOf sides
  pointwise []
  by_cases h : k.val < 512
  · simp only [h, ↓reduceDIte]
  · by_cases h' : k.val < 1536
    · have h2 : k.val - 512 < 1024 := by omega
      simp only [h, h', h2, ↓reduceDIte]
    · have h2 : ¬ k.val - 512 < 1024 := by omega
      have e : k.val - 512 - 1024 = k.val - 1536 := by omega
      simp only [h, h', h2, e, ↓reduceDIte]

/-- The projected row. -/
def projectedOf : FVec Ideal S512x2048 .f32 :=
  matmul (φ₂ := .bf16) dot_S512x2048_S2048x2048_S512x2048_1_0_0_1_n_n none (sides x0 x1 x2 x5)
    (shapeCast S2048x2048 x6 shapeCasts_S1x2048x2048_S2048x2048) (constant S512x2048 .f32 0x00000000#32)

theorem projected_apply (r : Fin 512) (k : Fin 2048) :
    projectedOf x0 x1 x2 x5 x6 (ix2 r k) = (tokenOf x0 x1 x2 x3 x4 x5 x6 x7 x8 x9 x10 x11 r).projected k := by
  unfold Token.projected
  simp only [← sides_apply]
  unfold projectedOf
  generalize sides x0 x1 x2 x5 = y
  pointwise []
  rfl

theorem normed_apply (r : Fin 512) (k : Fin 2048) :
    k0_pay3 x2 x5 x0 x1 x6 (ix2 r k)
      = unit (Ideal.ofBits .f32 0x45000000#32) (tokenOf x0 x1 x2 x3 x4 x5 x6 x7 x8 x9 x10 x11 r).projected k := by
  have h : k0_pay3 x2 x5 x0 x1 x6 = mulf (projectedOf x0 x1 x2 x5 x6) (broadcastTo S512x2048
    (rsqrt (addf (divf (shapeCast S512x1 (multiReduction .add [1] S512 (mulf (projectedOf x0 x1 x2 x5 x6) (projectedOf x0 x1 x2 x5 x6)) 0x00000000#32 reduces_S512x2048_S512 (.inl rfl) rfl) shapeCasts_S512_S512x1)
      (broadcast S512x1 (Scalar.ofBits .f32 0x45000000#32))) (broadcast S512x1 (Scalar.ofBits .f32 0x358637BD#32)))) broadcasts_S512x1_S512x2048) := rfl
  rw [h]
  have hp := projected_apply x0 x1 x2 x3 x4 x5 x6 x7 x8 x9 x10 x11 r
  generalize projectedOf x0 x1 x2 x5 x6 = y at hp ⊢
  unfold unit
  pointwise []
  simp only [hp]

theorem out_apply (r : Fin 512) (k : Fin 2048) :
    k0_pay4 x3 (k0_pay2 x4) (k0_pay3 x2 x5 x0 x1 x6) x7 (ix2 r k)
      = (tokenOf x0 x1 x2 x3 x4 x5 x6 x7 x8 x9 x10 x11 r).out k := by
  unfold Token.out
  rw [← normed_apply]
  generalize k0_pay3 x2 x5 x0 x1 x6 = y
  pointwise [k0_pay4, k0_pay2]
  rfl

theorem hidden_apply (r : Fin 512) (k : Fin 2048) :
    k0_pay5 x3 (k0_pay2 x4) (k0_pay3 x2 x5 x0 x1 x6) x7 x8 x9 x10 (ix2 r k)
      = (tokenOf x0 x1 x2 x3 x4 x5 x6 x7 x8 x9 x10 x11 r).hidden k := by
  unfold Token.hidden unit
  have ho := out_apply x0 x1 x2 x3 x4 x5 x6 x7 x8 x9 x10 x11 r
  unfold k0_pay5
  generalize k0_pay4 x3 (k0_pay2 x4) (k0_pay3 x2 x5 x0 x1 x6) x7 = y at ho ⊢
  pointwise []
  simp only [ho]
  rfl

theorem logit_apply (r : Fin 512) (e : Fin 16) :
    k0_pay7 x3 (k0_pay2 x4) (k0_pay3 x2 x5 x0 x1 x6) x7 x8 x9 x10 x11 (ix2 e r)
      = (tokenOf x0 x1 x2 x3 x4 x5 x6 x7 x8 x9 x10 x11 r).logit e := by
  unfold Token.logit
  simp only [← hidden_apply]
  unfold k0_pay7
  generalize k0_pay5 x3 (k0_pay2 x4) (k0_pay3 x2 x5 x0 x1 x6) x7 x8 x9 x10 = y
  pointwise []
  rfl

theorem prob_apply (r : Fin 512) (e : Fin 16) :
    k0_pay1 (k0_pay7 x3 (k0_pay2 x4) (k0_pay3 x2 x5 x0 x1 x6) x7 x8 x9 x10 x11)
        (k0_pay8 x3 (k0_pay2 x4) (k0_pay3 x2 x5 x0 x1 x6) x7 x8 x9 x10 x11) (ix2 e r)
      = (tokenOf x0 x1 x2 x3 x4 x5 x6 x7 x8 x9 x10 x11 r).prob e := by
  unfold Token.prob
  have hl := logit_apply x0 x1 x2 x3 x4 x5 x6 x7 x8 x9 x10 x11 r
  unfold k0_pay8
  generalize k0_pay7 x3 (k0_pay2 x4) (k0_pay3 x2 x5 x0 x1 x6) x7 x8 x9 x10 x11 = y at hl ⊢
  pointwise [k0_pay1]
  simp only [hl, Attn.neg_inf]
  rfl

/-! The three stored blocks are these values. -/

theorem stored_out : out0_12 x0 x1 x2 x3 x4 x5 x6 x7 x8 x9 x10 x11 = k0_pay4 x3 (k0_pay2 x4) (k0_pay3 x2 x5 x0 x1 x6) x7 := by
  unfold_out out0_12
  frame_out

theorem stored_hidden : out0_13 x0 x1 x2 x3 x4 x5 x6 x7 x8 x9 x10 x11 = k0_pay6 x3 (k0_pay2 x4) (k0_pay3 x2 x5 x0 x1 x6) x7 x8 x9 x10 := by
  unfold_out out0_13
  frame_out

theorem stored_prob : out0_14 x0 x1 x2 x3 x4 x5 x6 x7 x8 x9 x10 x11
    = k0_pay1 (k0_pay7 x3 (k0_pay2 x4) (k0_pay3 x2 x5 x0 x1 x6) x7 x8 x9 x10 x11)
        (k0_pay8 x3 (k0_pay2 x4) (k0_pay3 x2 x5 x0 x1 x6) x7 x8 x9 x10 x11) := by
  unfold_out out0_14
  frame_out

end Cert.Kernel3Ideal.Out

end
-- ==== Proof.OutArray.lean ====
/- The output projection's three results, element by element, as functions of its arguments. -/
module

public import proofs.«01_k».proof.Proof.OutBlock

@[expose] public section

noncomputable section

namespace Cert.Kernel3Ideal.Out

open Cert.Kernel3Ideal Cert.Kernel3Ideal.Gen Idealize.ShloMosaic Idealize.ShloMosaic.TcCoe Idealize.SL.Sem
open Idealize.ShloMosaic.Pipeline (Dat)
open Cert.Out

variable (m : (ℓ : Loc nD τ sig) → Buf (Elt Ideal) ℓ)

theorem blocks_at : ∀ t : Fin cfg0.N,
    win0_0.index t = ![t.val, 0] ∧ win0_1.index t = ![t.val, 0] ∧ win0_2.index t = ![t.val, 0] ∧ win0_3.index t = ![t.val, 0]
      ∧ win0_4.index t = ![t.val / 4, 0, 0] ∧ win0_5.index t = ![0, 0] ∧ win0_6.index t = ![0, 0, 0]
      ∧ win0_7.index t = ![0, 0] ∧ win0_8.index t = ![0, 0] ∧ win0_9.index t = ![t.val / 4, 0, 0]
      ∧ win0_10.index t = ![t.val / 4, 0, 0] ∧ win0_11.index t = ![0, 0] ∧ win0_12.index t = ![t.val, 0]
      ∧ win0_13.index t = ![t.val, 0] ∧ win0_14.index t = ![0, t.val] := by
  decide +kernel

/-- The tokens of the argument arrays as launched. -/
def tokens (c : Dev nD) : Fin 40960 → Token :=
  tokenAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) 0

theorem lt_80 (t : Fin cfg0.N) : t.val < 80 := t.isLt

/-- Row `r` of point `t`'s blocks is a token of the arguments. -/
def place (t : Fin cfg0.N) (r : Fin 512) : Fin 40960 := ⟨512 * t.val + r.val, by have := lt_80 t; omega⟩

theorem token_at (c : Dev nD) (t : Fin cfg0.N) (r : Fin 512) :
    tokenOf (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) r
      = tokens m c (place t r) := by
  obtain ⟨e0, e1, e2, e3, e4, e5, e6, e7, e8, e9, e10, e11, -⟩ := blocks_at t
  have ht := lt_80 t
  have hp : (place t r).val = 512 * t.val + r.val := rfl
  unfold tokenOf tokens tokenAt
  congr 1
  · funext k; blk_point [iblk, V, e0]
  · funext k; blk_point [iblk, V, e1]
  · funext k; blk_point [iblk, V, e2]
  · funext k; blk_point [iblk, V, e3]
  · funext k; blk_point [iblk, V, e4]
  · funext k; blk_point [iblk, V, e5]
  · funext n k; blk_point [iblk, V, e6]
  · funext k; blk_point [iblk, V, e7]
  · funext k; blk_point [iblk, V, e8]
  · funext k; blk_point [iblk, V, e9]
  · funext k; blk_point [iblk, V, e10]
  · funext e k; blk_point [iblk, V, e11]

theorem outs_apply (c : Dev nD) (t : Fin cfg0.N) (r : Fin 512) (k : Fin 2048) :
    (dats m 0 c).after 12 t (ix2 r k) = (tokens m c (place t r)).out k := by
  rw [← token_at, ← out_apply, after0_12, stored_out]

theorem hiddens_apply (c : Dev nD) (t : Fin cfg0.N) (r : Fin 512) (k : Fin 2048) :
    (dats m 0 c).after 13 t (ix2 r k) = (tokens m c (place t r)).hidden k := by
  rw [← token_at, ← hidden_apply, after0_13, stored_hidden]
  rfl

theorem probs_apply (c : Dev nD) (t : Fin cfg0.N) (e : Fin 16) (r : Fin 512) :
    (dats m 0 c).after 14 t (ix2 e r) = (tokens m c (place t r)).prob e := by
  rw [← token_at, ← prob_apply, after0_14, stored_prob]

theorem outs_array (c : Dev nD) : (dats m 0 c).arrAt 12 (cfgs 0).N = outs (tokens m c) := by
  refine (dats m 0 c).arrAt_eq_of_covers 12 _ (by decide +kernel) fun t hf y => ?_
  blk_simp
  obtain ⟨r, k, rfl⟩ : ∃ (r : Fin 512) (k : Fin 2048), y = ix2 r k := ⟨y 0, y 1, eq_ix2 y⟩
  rw [outs_apply]
  obtain ⟨-, -, -, -, -, -, -, -, -, -, -, -, e12, -, -⟩ := blocks_at t
  change outs (tokens m c) (ix2 (place t r) k) = _
  have hp : (place t r).val = 512 * t.val + r.val := rfl
  generalize outs (tokens m c) = z
  blk_point [e12]

theorem hiddens_array (c : Dev nD) : (dats m 0 c).arrAt 13 (cfgs 0).N = hiddens (tokens m c) := by
  refine (dats m 0 c).arrAt_eq_of_covers 13 _ (by decide +kernel) fun t hf y => ?_
  blk_simp
  obtain ⟨r, k, rfl⟩ : ∃ (r : Fin 512) (k : Fin 2048), y = ix2 r k := ⟨y 0, y 1, eq_ix2 y⟩
  rw [hiddens_apply]
  obtain ⟨-, -, -, -, -, -, -, -, -, -, -, -, -, e13, -⟩ := blocks_at t
  change hiddens (tokens m c) (ix2 (place t r) k) = _
  have hp : (place t r).val = 512 * t.val + r.val := rfl
  generalize hiddens (tokens m c) = z
  blk_point [e13]

theorem probs_array (c : Dev nD) : (dats m 0 c).arrAt 14 (cfgs 0).N = probs (tokens m c) := by
  refine (dats m 0 c).arrAt_eq_of_covers 14 _ (by decide +kernel) fun t hf y => ?_
  blk_simp
  obtain ⟨e, r, rfl⟩ : ∃ (e : Fin 16) (r : Fin 512), y = ix2 e r := ⟨y 0, y 1, eq_ix2 y⟩
  rw [probs_apply]
  obtain ⟨-, -, -, -, -, -, -, -, -, -, -, -, -, -, e14⟩ := blocks_at t
  change probs (tokens m c) (ix2 e (place t r)) = _
  have hp : (place t r).val = 512 * t.val + r.val := rfl
  generalize probs (tokens m c) = z
  blk_point [e14]

end Cert.Kernel3Ideal.Out

end
-- ==== Proof.OutReference.lean ====
/- The output projection's reference, element by element, in the words of `OutMath`. -/
module

public import proofs.«01_k».proof.Proof.Gen.Reference3Ideal.Read
public import proofs.«01_k».proof.Proof.Block
public import proofs.«01_k».proof.Proof.OutMath

@[expose] public section

noncomputable section

namespace Cert.Reference3Ideal.Out

open Cert.Reference3Ideal Cert.Reference3Ideal.Gen Idealize.ShloMosaic Idealize.ShloMosaic.TcCoe Idealize.SL.Sem
open Cert.Reference3Ideal.Read
open Cert.Out

variable (x0 : Vec Ideal S40960x512 .bf16) (x1 : Vec Ideal S40960x1024 .bf16) (x2 : Vec Ideal S40960x512 .f32)
  (x3 : Vec Ideal S40960x2048 .f32) (x4 : Vec Ideal S20x1x2048 .f32) (x5 : Vec Ideal S512 .f32)
  (x6 : Vec Ideal S2x2048x2048 .bf16) (x7 x8 : Vec Ideal S2048 .f32) (x9 x10 : Vec Ideal S20x1x2048 .f32)
  (x11 : Vec Ideal S16x2048 .f32)

theorem sides_apply (i : Fin 40960) (k : Fin 2048) :
    val_main_v15 (F := Ideal) x0 x1 x2 x5 (ix2 i k) = (tokenAt x0 x1 x2 x3 x4 x5 x6 x7 x8 x9 x10 x11 0 i).mixed k := by
  unfold Token.mixed unit tokenAt
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  by_cases h : k.val < 512
  · simp only [h, ↓reduceDIte]
  · by_cases h' : k.val < 1536
    · have h2 : k.val - 512 < 1024 := by omega
      simp only [h, h', h2, ↓reduceDIte]
    · have h2 : ¬ k.val - 512 < 1024 := by omega
      have e : k.val - 512 - 1024 = k.val - 1536 := by omega
      simp only [h, h', h2, e, ↓reduceDIte]

theorem projected_apply (i : Fin 40960) (k : Fin 2048) :
    val_main_v19 (F := Ideal) x0 x1 x2 x5 x6 (ix2 i k) = (tokenAt x0 x1 x2 x3 x4 x5 x6 x7 x8 x9 x10 x11 0 i).projected k := by
  unfold Token.projected
  simp only [← sides_apply]
  unfold val_main_v19
  generalize val_main_v15 (F := Ideal) x0 x1 x2 x5 = y
  pointwise [val_main_v18, val_main_v17, val_main_v16]
  rfl

theorem out_apply (i : Fin 40960) (k : Fin 2048) :
    val_main_v71 (F := Ideal) x0 x1 x2 x3 x4 x5 x6 x7 (ix2 i k)
      = (tokenAt x0 x1 x2 x3 x4 x5 x6 x7 x8 x9 x10 x11 0 i).out k := by
  have hp := projected_apply x0 x1 x2 x3 x4 x5 x6 x7 x8 x9 x10 x11 i
  unfold Token.out unit
  simp only [← hp]
  unfold val_main_v71 val_main_v37 val_main_v36 val_main_v34 val_main_v33 val_main_v30 val_main_v29 val_main_v28
    val_main_v27 val_main_v25 val_main_v23 val_main_v22 val_main_v21
  generalize val_main_v19 (F := Ideal) x0 x1 x2 x5 x6 = y
  pointwise [val_main_v35, val_main_v32, val_main_v31, val_main_v26, val_main_v24, val_main_v20, val_main_cst_2,
    val_main_cst_3, val_main_cst_4]
  unfold tokenAt
  have e : i.val / 2048 * 2048 + i.val % 2048 = i.val := by omega
  simp only [e]

theorem hidden_apply (i : Fin 40960) (k : Fin 2048) :
    val_main_v57 (F := Ideal) x0 x1 x2 x3 x4 x5 x6 x7 x8 x9 x10 (ix2 i k)
      = (tokenAt x0 x1 x2 x3 x4 x5 x6 x7 x8 x9 x10 x11 0 i).hidden k := by
  have ho := out_apply x0 x1 x2 x3 x4 x5 x6 x7 x8 x9 x10 x11 i
  unfold Token.hidden unit
  simp only [← ho]
  unfold val_main_v57 val_main_v56 val_main_v54 val_main_v50 val_main_v47 val_main_v46 val_main_v45 val_main_v44 val_main_v42
    val_main_v40 val_main_v39 val_main_v38 val_main_v71
  generalize val_main_v37 (F := Ideal) x0 x1 x2 x3 x4 x5 x6 x7 = y
  pointwise [val_main_v55, val_main_v53, val_main_v52, val_main_v51, val_main_v49, val_main_v48, val_main_v43,
    val_main_v41, val_main_cst_5, val_main_cst_6, val_main_cst_7, val_main_cst_8]
  rfl

theorem logit_apply (i : Fin 40960) (e : Fin 16) :
    val_main_v59 (F := Ideal) x0 x1 x2 x3 x4 x5 x6 x7 x8 x9 x10 x11 (ix2 i e)
      = (tokenAt x0 x1 x2 x3 x4 x5 x6 x7 x8 x9 x10 x11 0 i).logit e := by
  have hh := hidden_apply x0 x1 x2 x3 x4 x5 x6 x7 x8 x9 x10 x11 i
  unfold Token.logit
  simp only [← hh]
  unfold val_main_v59
  generalize val_main_v57 (F := Ideal) x0 x1 x2 x3 x4 x5 x6 x7 x8 x9 x10 = y
  pointwise [val_main_v58]
  exact Finset.sum_congr rfl fun k _ => mul_comm _ _

theorem greatest_apply (i : Fin 40960) :
    val_main_v62 (F := Ideal) x0 x1 x2 x3 x4 x5 x6 x7 x8 x9 x10 x11 (ix1 i)
      = Attn.rowMax (tokenAt x0 x1 x2 x3 x4 x5 x6 x7 x8 x9 x10 x11 0 i).logit := by
  have hl := logit_apply x0 x1 x2 x3 x4 x5 x6 x7 x8 x9 x10 x11 i
  unfold val_main_v62 val_main_v60
  generalize val_main_v59 (F := Ideal) x0 x1 x2 x3 x4 x5 x6 x7 x8 x9 x10 x11 = y at hl ⊢
  pointwise [val_main_v61, val_main_cst_9, val_main_cst_10]
  simp only [hl, Attn.neg_inf]
  unfold Attn.rowMax
  exact max_eq_right bot_le

theorem prob_apply (i : Fin 40960) (e : Fin 16) :
    val_main_v73 (F := Ideal) x0 x1 x2 x3 x4 x5 x6 x7 x8 x9 x10 x11 (ix2 e i)
      = (tokenAt x0 x1 x2 x3 x4 x5 x6 x7 x8 x9 x10 x11 0 i).prob e := by
  have hl := logit_apply x0 x1 x2 x3 x4 x5 x6 x7 x8 x9 x10 x11 i
  have hm := greatest_apply x0 x1 x2 x3 x4 x5 x6 x7 x8 x9 x10 x11 i
  unfold val_main_v73 val_main_v70 val_main_v69 val_main_v68 val_main_v67 val_main_v66 val_main_v65 val_main_v64 val_main_v63
  generalize val_main_v59 (F := Ideal) x0 x1 x2 x3 x4 x5 x6 x7 x8 x9 x10 x11 = y at hl ⊢
  generalize val_main_v62 (F := Ideal) x0 x1 x2 x3 x4 x5 x6 x7 x8 x9 x10 x11 = z at hm ⊢
  pointwise [val_main_cst_11]
  simp only [hl, hm]
  rfl

theorem outs_eq : val_main_v71 (F := Ideal) x0 x1 x2 x3 x4 x5 x6 x7 = outs (tokenAt x0 x1 x2 x3 x4 x5 x6 x7 x8 x9 x10 x11 0) := by
  funext i
  obtain ⟨n, k, rfl⟩ : ∃ (n : Fin 40960) (k : Fin 2048), i = ix2 n k := ⟨i 0, i 1, eq_ix2 i⟩
  exact out_apply x0 x1 x2 x3 x4 x5 x6 x7 x8 x9 x10 x11 n k

theorem hiddens_eq : val_main_v72 (F := Ideal) x0 x1 x2 x3 x4 x5 x6 x7 x8 x9 x10
    = hiddens (tokenAt x0 x1 x2 x3 x4 x5 x6 x7 x8 x9 x10 x11 0) := by
  funext i
  obtain ⟨n, k, rfl⟩ : ∃ (n : Fin 40960) (k : Fin 2048), i = ix2 n k := ⟨i 0, i 1, eq_ix2 i⟩
  exact hidden_apply x0 x1 x2 x3 x4 x5 x6 x7 x8 x9 x10 x11 n k

theorem probs_eq : val_main_v73 (F := Ideal) x0 x1 x2 x3 x4 x5 x6 x7 x8 x9 x10 x11
    = probs (tokenAt x0 x1 x2 x3 x4 x5 x6 x7 x8 x9 x10 x11 0) := by
  funext i
  obtain ⟨e, n, rfl⟩ : ∃ (e : Fin 16) (n : Fin 40960), i = ix2 e n := ⟨i 0, i 1, eq_ix2 i⟩
  exact prob_apply x0 x1 x2 x3 x4 x5 x6 x7 x8 x9 x10 x11 n e

end Cert.Reference3Ideal.Out

end
-- ==== Proof.Cond.lean ====
/- The conditioning: its mathematics, and the kernel's result as a function of its arguments. -/
module

public import proofs.«01_k».proof.Proof.Gen.Kernel4Ideal.Value
public import Idealize.ShloMosaic.Lib.Pipeline.ValueKit
public import Idealize.ShloMosaic.Lib.Pipeline.ReadBack

@[expose] public section

noncomputable section

namespace Cert.Cond

open Idealize.ShloMosaic Cert.Kernel4Ideal

/-- One number times its logistic value. -/
def silu (x : EReal) : EReal :=
  x * Ideal.div (Ideal.ofBits .f32 0x3F800000#32) (Ideal.ofBits .f32 0x3F800000#32 + Ideal.exp (-x))

/-- One entry of the conditioning: a sequence's row after `silu`, times a column of the weights, plus its bias. -/
def entry (row weights : Fin 2048 → EReal) (bias : EReal) : EReal := (∑ k, silu (row k) * weights k) + bias

/-- The conditioning of every layer, sequence and column. -/
def conds (x0 : Vec Ideal S20x2048 .f32) (x1 : Vec Ideal S2x2048x12288 .f32) (x2 : Vec Ideal S2x12288 .f32) :
    Vec Ideal S2x20x12288 .f32 := fun i =>
  entry (fun k => x0 (ix2 (i 1) k)) (fun k => x1 (ix3 (i 0) k (i 2))) (x2 (ix2 (i 0) (i 2)))

end Cert.Cond

namespace Cert.Kernel4Ideal.Cond

open Cert.Kernel4Ideal Cert.Kernel4Ideal.Gen Idealize.ShloMosaic Idealize.ShloMosaic.TcCoe Idealize.SL.Sem
open Idealize.ShloMosaic.Pipeline (Dat)
open Cert.Cond

theorem stored (x0 : Vec Ideal S20x2048 .f32) (x1 : Vec Ideal S1x2048x1024 .f32) (x2 : Vec Ideal S1x1x1024 .f32) :
    out0_3 x0 x1 x2 = k0_pay1 x0 x1 x2 := by
  unfold out0_3
  frame_out

theorem block_apply (x0 : Vec Ideal S20x2048 .f32) (x1 : Vec Ideal S1x2048x1024 .f32) (x2 : Vec Ideal S1x1x1024 .f32)
    (b : Fin 20) (j : Fin 1024) :
    k0_pay1 x0 x1 x2 (ix3 0 b j) = entry (fun k => x0 (ix2 b k)) (fun k => x1 (ix3 0 k j)) (x2 (ix3 0 0 j)) := by
  unfold entry silu
  pointwise [k0_pay1]
  simp only [zero_sub]

variable (m : (ℓ : Loc nD τ sig) → Buf (Elt Ideal) ℓ)

theorem blocks_at : ∀ t : Fin cfg0.N,
    win0_0.index t = ![0, 0] ∧ win0_1.index t = ![t.val / 12, 0, t.val % 12] ∧ win0_2.index t = ![t.val / 12, 0, t.val % 12]
      ∧ win0_3.index t = ![t.val / 12, 0, t.val % 12] := by
  decide +kernel

theorem lt_24 (t : Fin cfg0.N) : t.val < 24 := t.isLt

/-- The layer of point `t`, and the column of lane `j` of its blocks. -/
def layerOf (t : Fin cfg0.N) : Fin 2 := ⟨t.val / 12, by have := lt_24 t; omega⟩
def colOf (t : Fin cfg0.N) (j : Fin 1024) : Fin 12288 := ⟨1024 * (t.val % 12) + j.val, by omega⟩

theorem bias_at (c : Dev nD) (t : Fin cfg0.N) (j : Fin 1024) :
    iblk m c 2 t (ix3 0 0 j) = m ((c : Thread nD τ).loc main_arg2) (ix2 (layerOf t) (colOf t j)) := by
  obtain ⟨-, -, e2, -⟩ := blocks_at t
  have hl : (layerOf t).val = t.val / 12 := rfl
  have hc : (colOf t j).val = 1024 * (t.val % 12) + j.val := rfl
  blk_point [iblk, V, e2]

theorem array (c : Dev nD) : (dats m 0 c).arrAt 3 (cfgs 0).N
    = conds (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  obtain ⟨a, b, j, rfl⟩ : ∃ (a : Fin 1) (b : Fin 20) (j : Fin 1024), y = ix3 a b j := ⟨y 0, y 1, y 2, eq_ix3 y⟩
  obtain rfl : a = 0 := Subsingleton.elim _ _
  rw [after0_3, stored, block_apply, bias_at]
  obtain ⟨e0, e1, -, e3⟩ := blocks_at t
  have hl : (layerOf t).val = t.val / 12 := rfl
  have hc : (colOf t j).val = 1024 * (t.val % 12) + j.val := rfl
  have hx : (fun k => iblk m c 0 t (ix2 b k)) = fun k => m ((c : Thread nD τ).loc main_arg0) (ix2 b k) := by
    funext k; blk_point [iblk, V, e0]
  have hw : (fun k => iblk m c 1 t (ix3 0 k j)) = fun k => m ((c : Thread nD τ).loc main_arg1) (ix3 (layerOf t) k (colOf t j)) := by
    funext k; blk_point [iblk, V, e1]
  rw [hx, hw]
  generalize hz : conds (m ((c : Thread nD τ).loc main_arg0)) (m ((c : Thread nD τ).loc main_arg1)) (m ((c : Thread nD τ).loc main_arg2)) = z
  change conds _ _ _ (ix3 (layerOf t) b (colOf t j)) = _
  rw [hz]
  blk_point [e3]

end Cert.Kernel4Ideal.Cond

end
-- ==== Proof.CondReference.lean ====
/- The conditioning's reference, element by element, in the words of `Cond`. -/
module

public import proofs.«01_k».proof.Proof.Gen.Reference4Ideal.Read
public import proofs.«01_k».proof.Proof.Cond

@[expose] public section

noncomputable section

namespace Cert.Reference4Ideal.Cond

open Cert.Reference4Ideal Cert.Reference4Ideal.Gen Idealize.ShloMosaic Idealize.ShloMosaic.TcCoe Idealize.SL.Sem
open Cert.Reference4Ideal.Read
open Cert.Cond

variable (x0 : Vec Ideal S20x2048 .f32) (x1 : Vec Ideal S2x2048x12288 .f32) (x2 : Vec Ideal S2x12288 .f32)

theorem silu_first (b : Fin 20) (k : Fin 2048) : val_main_v0 (F := Ideal) x0 (ix2 b k) = silu (x0 (ix2 b k)) := by
  unfold silu
  pointwise [val_main_v0, val_main_call0_v5, val_main_call0_v4, val_main_call0_cst_0, val_main_call0_v3, val_main_call0_v2,
    val_main_call0_cst, val_main_call0_v1, val_main_call0_v0]

theorem silu_second (b : Fin 20) (k : Fin 2048) : val_main_v9 (F := Ideal) x0 (ix2 b k) = silu (x0 (ix2 b k)) :=
  silu_first x0 b k

theorem first_layer (b : Fin 20) (j : Fin 12288) :
    val_main_v8 (F := Ideal) x0 x1 x2 (ix2 b j) = conds x0 x1 x2 (ix3 0 b j) := by
  have hs := silu_first x0
  unfold conds entry val_main_v8 val_main_v3
  generalize val_main_v0 (F := Ideal) x0 = y at hs ⊢
  pointwise [val_main_v7, val_main_v6, val_main_v5, val_main_v4, val_main_v2, val_main_v1]
  simp only [hs]

theorem second_layer (b : Fin 20) (j : Fin 12288) :
    val_main_v17 (F := Ideal) x0 x1 x2 (ix2 b j) = conds x0 x1 x2 (ix3 1 b j) := by
  have hs := silu_second x0
  unfold conds entry val_main_v17 val_main_v12
  generalize val_main_v9 (F := Ideal) x0 = y at hs ⊢
  pointwise [val_main_v16, val_main_v15, val_main_v14, val_main_v13, val_main_v11, val_main_v10]
  simp only [hs]

theorem conds_eq : val_main_v20 (F := Ideal) x0 x1 x2 = conds x0 x1 x2 := by
  have h1 := first_layer x0 x1 x2
  have h2 := second_layer x0 x1 x2
  funext i
  obtain ⟨l, b, j, rfl⟩ : ∃ (l : Fin 2) (b : Fin 20) (j : Fin 12288), i = ix3 l b j := ⟨i 0, i 1, i 2, eq_ix3 i⟩
  unfold val_main_v20 val_main_v19 val_main_v18
  generalize val_main_v8 (F := Ideal) x0 x1 x2 = y at h1 ⊢
  generalize val_main_v17 (F := Ideal) x0 x1 x2 = z at h2 ⊢
  generalize conds x0 x1 x2 = g at h1 h2 ⊢
  fin_cases l
  · pointwise []
    simp [h1]
  · pointwise []
    simp [h2]

end Cert.Reference4Ideal.Cond

end
-- ==== Proof.Casts.lean ====
/- The casts of the weights to bfloat16: each call's result is its reference's. -/
module

public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack
public import Idealize.ShloMosaic.Lib.Pipeline.Value
public import Idealize.ShloMosaic.Lib.Pointwise

@[expose] public section

noncomputable section

/-! ## The cast of the input projection's weights -/

namespace Cert.Kernel7Ideal.Cast

open Cert.Kernel7Ideal Cert.Kernel7Ideal.Gen Idealize.ShloMosaic Idealize.ShloMosaic.TcCoe Idealize.SL.Sem
open Idealize.ShloMosaic.Pipeline (Dat)

theorem stored (x : Vec Ideal S256x6656 .f32) : out0_1 x = k0_pay1 x := by
  unfold out0_1
  frame_out

/-- A point's block, rounded, is at the ideal numbers the block it finds. -/
theorem block_apply (x : Vec Ideal S256x6656 .f32) (r : Fin 256) (k : Fin 6656) : k0_pay1 x (ix2 r k) = x (ix2 r k) := by
  pointwise [k0_pay1]

variable (m : (ℓ : Loc nD τ sig) → Buf (Elt Ideal) ℓ)

theorem blocks_at : ∀ t : Fin cfg0.N, win0_0.index t = ![t.val, 0] ∧ win0_1.index t = ![t.val, 0] := by decide +kernel

/-- The call's operand is the argument's rows. -/
theorem operand (c : Dev nD) (i : S4096x6656.Idx) :
    V m c main_v0 i = Cert.Reference7Ideal.Read.val_main_v1 (F := Ideal) (m ((c : Thread nD τ).loc main_arg0)) i := by
  unfold_abbrev_sides
  after_results
  rfl

theorem array (c : Dev nD) : (dats m 0 c).arrAt 1 (cfgs 0).N
    = Cert.Reference7Ideal.Read.val_main_v1 (F := Ideal) (m ((c : Thread nD τ).loc main_arg0)) := by
  refine (dats m 0 c).arrAt_eq_of_covers 1 _ (by decide +kernel) fun t hf y => ?_
  blk_simp
  obtain ⟨r, k, rfl⟩ : ∃ (r : Fin 256) (k : Fin 6656), y = ix2 r k := ⟨y 0, y 1, eq_ix2 y⟩
  obtain ⟨e0, e1⟩ := blocks_at t
  rw [after0_1, stored, block_apply, ← operand]
  blk_point [iblk, e0, e1]

end Cert.Kernel7Ideal.Cast

/-! ## The cast of the output projection's weights -/

namespace Cert.Kernel8Ideal.Cast

open Cert.Kernel8Ideal Cert.Kernel8Ideal.Gen Idealize.ShloMosaic Idealize.ShloMosaic.TcCoe Idealize.SL.Sem
open Idealize.ShloMosaic.Pipeline (Dat)

theorem stored (x : Vec Ideal S1024x2048 .f32) : out0_1 x = k0_pay1 x := by
  unfold out0_1
  frame_out

/-- A point's block, rounded, is at the ideal numbers the block it finds. -/
theorem block_apply (x : Vec Ideal S1024x2048 .f32) (r : Fin 1024) (k : Fin 2048) : k0_pay1 x (ix2 r k) = x (ix2 r k) := by
  pointwise [k0_pay1]

variable (m : (ℓ : Loc nD τ sig) → Buf (Elt Ideal) ℓ)

theorem blocks_at : ∀ t : Fin cfg0.N, win0_0.index t = ![t.val, 0] ∧ win0_1.index t = ![t.val, 0] := by decide +kernel

/-- The call's operand is the argument's rows. -/
theorem operand (c : Dev nD) (i : S4096x2048.Idx) :
    V m c main_v0 i = Cert.Reference8Ideal.Read.val_main_v1 (F := Ideal) (m ((c : Thread nD τ).loc main_arg0)) i := by
  unfold_abbrev_sides
  after_results
  rfl

theorem array (c : Dev nD) : (dats m 0 c).arrAt 1 (cfgs 0).N
    = Cert.Reference8Ideal.Read.val_main_v1 (F := Ideal) (m ((c : Thread nD τ).loc main_arg0)) := by
  refine (dats m 0 c).arrAt_eq_of_covers 1 _ (by decide +kernel) fun t hf y => ?_
  blk_simp
  obtain ⟨r, k, rfl⟩ : ∃ (r : Fin 1024) (k : Fin 2048), y = ix2 r k := ⟨y 0, y 1, eq_ix2 y⟩
  obtain ⟨e0, e1⟩ := blocks_at t
  rw [after0_1, stored, block_apply, ← operand]
  blk_point [iblk, e0, e1]

end Cert.Kernel8Ideal.Cast

/-! ## The cast of the experts' gate weights and, by the same call, their up weights -/

namespace Cert.Kernel9Ideal.Cast

open Cert.Kernel9Ideal Cert.Kernel9Ideal.Gen Idealize.ShloMosaic Idealize.ShloMosaic.TcCoe Idealize.SL.Sem
open Idealize.ShloMosaic.Pipeline (Dat)

theorem stored (x : Vec Ideal S2048x1024 .f32) : out0_1 x = k0_pay1 x := by
  unfold out0_1
  frame_out

/-- A point's block, rounded, is at the ideal numbers the block it finds. -/
theorem block_apply (x : Vec Ideal S2048x1024 .f32) (r : Fin 2048) (k : Fin 1024) : k0_pay1 x (ix2 r k) = x (ix2 r k) := by
  pointwise [k0_pay1]

variable (m : (ℓ : Loc nD τ sig) → Buf (Elt Ideal) ℓ)

theorem blocks_at : ∀ t : Fin cfg0.N, win0_0.index t = ![t.val, 0] ∧ win0_1.index t = ![t.val, 0] := by decide +kernel

/-- The call's operand is the argument's rows. -/
theorem operand (c : Dev nD) (i : S65536x1024.Idx) :
    V m c main_v0 i = Cert.Reference9Ideal.Read.val_main_v1 (F := Ideal) (m ((c : Thread nD τ).loc main_arg0)) i := by
  unfold_abbrev_sides
  after_results
  rfl

theorem array (c : Dev nD) : (dats m 0 c).arrAt 1 (cfgs 0).N
    = Cert.Reference9Ideal.Read.val_main_v1 (F := Ideal) (m ((c : Thread nD τ).loc main_arg0)) := by
  refine (dats m 0 c).arrAt_eq_of_covers 1 _ (by decide +kernel) fun t hf y => ?_
  blk_simp
  obtain ⟨r, k, rfl⟩ : ∃ (r : Fin 2048) (k : Fin 1024), y = ix2 r k := ⟨y 0, y 1, eq_ix2 y⟩
  obtain ⟨e0, e1⟩ := blocks_at t
  rw [after0_1, stored, block_apply, ← operand]
  blk_point [iblk, e0, e1]

end Cert.Kernel9Ideal.Cast

/-! ## The cast of the experts' down weights -/

namespace Cert.Kernel10Ideal.Cast

open Cert.Kernel10Ideal Cert.Kernel10Ideal.Gen Idealize.ShloMosaic Idealize.ShloMosaic.TcCoe Idealize.SL.Sem
open Idealize.ShloMosaic.Pipeline (Dat)

theorem stored (x : Vec Ideal S1024x2048 .f32) : out0_1 x = k0_pay1 x := by
  unfold out0_1
  frame_out

/-- A point's block, rounded, is at the ideal numbers the block it finds. -/
theorem block_apply (x : Vec Ideal S1024x2048 .f32) (r : Fin 1024) (k : Fin 2048) : k0_pay1 x (ix2 r k) = x (ix2 r k) := by
  pointwise [k0_pay1]

variable (m : (ℓ : Loc nD τ sig) → Buf (Elt Ideal) ℓ)

theorem blocks_at : ∀ t : Fin cfg0.N, win0_0.index t = ![t.val, 0] ∧ win0_1.index t = ![t.val, 0] := by decide +kernel

/-- The call's operand is the argument's rows. -/
theorem operand (c : Dev nD) (i : S32768x2048.Idx) :
    V m c main_v0 i = Cert.Reference10Ideal.Read.val_main_v1 (F := Ideal) (m ((c : Thread nD τ).loc main_arg0)) i := by
  unfold_abbrev_sides
  after_results
  rfl

theorem array (c : Dev nD) : (dats m 0 c).arrAt 1 (cfgs 0).N
    = Cert.Reference10Ideal.Read.val_main_v1 (F := Ideal) (m ((c : Thread nD τ).loc main_arg0)) := by
  refine (dats m 0 c).arrAt_eq_of_covers 1 _ (by decide +kernel) fun t hf y => ?_
  blk_simp
  obtain ⟨r, k, rfl⟩ : ∃ (r : Fin 1024) (k : Fin 2048), y = ix2 r k := ⟨y 0, y 1, eq_ix2 y⟩
  obtain ⟨e0, e1⟩ := blocks_at t
  rw [after0_1, stored, block_apply, ← operand]
  blk_point [iblk, e0, e1]

end Cert.Kernel10Ideal.Cast

end
-- ==== Proof.SecondInBody.lean ====
/- The input projection's body, run once at any grid point: what it leaves in its scratch rows, in its
   float32 block and in its bfloat16 block, as functions of the blocks it finds.  The scratch rows are
   the normalised, scaled and shifted rows of the sequence, 128 at a time.
   This is the second layer's call; the first layer's is read the same way in `InBody`. -/
module

public import proofs.«01_k».proof.Proof.Gen.Kernel5Ideal.Frame
public import proofs.«01_k».proof.Proof.Gen.Kernel5Ideal.Loops
public import Idealize.ShloMosaic.Lib.Pipeline.ReadBack
public import Idealize.ShloMosaic.Lib.VecWindow
public import Idealize.ShloMosaic.Lib.Pointwise

@[expose] public section

set_option maxRecDepth 16384

noncomputable section

namespace Cert.Kernel5Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal.Gen

variable {F : FTy → Type} [FloatOps F]

local notation "𝕄" => MT nD τ sig Unit (Elt F) ℕ (UR sig nD τ) ℕ

/-- Rows `128 k` to `128 k + 127` of a block of the sequence. -/
def chunk (x : Vec F S1x1024x2048 .f32) (k : Fin 8) : Vec F S1x128x2048 .f32 := fun z =>
  x (ix3 (0 : Fin 1) (⟨128 * k.val + (z 1).val, by have := k.isLt; have : (z 1).val < 128 := (z 1).isLt; omega⟩ : Fin 1024) (z 2))

/-- The scratch rows: each is normed, scaled and shifted with the chunk it lies in. -/
def normed (x : Vec F S1x1024x2048 .f32) (nw : Vec F S1x2048 .f32) (sc sh : Vec F S1x1x2048 .f32) :
    Vec F S1024x2048 .bf16 := fun y =>
  k0_pay1 (chunk x ⟨(y 0).val / 128, by have : (y 0).val < 1024 := (y 0).isLt; omega⟩) nw sc sh
    (ix2 (⟨(y 0).val % 128, by omega⟩ : Fin 128) (y 1))

/-- A block of queries or keys: four heads side by side, each turned by its rows' angles. -/
def turned (j : BitVec 32) (h : Vec F S1024x2048 .bf16) (w : Vec F S1x2048x512 .bf16)
    (cs s1 s2 : Vec F S1024x128 .f32) : Vec F S1x1024x512 .bf16 :=
  View.canon (Val := Elt F) (s := S1x1024x512) (e := .bf16)
    [⟨Rect.unit (s := S1x1024x512) ![0, 0, 384] S1x1024x128.size inb_S1x1024x512_S1x1024x128_0_0_384,
        k0_pay5 h w (k0_pay7 j) (k0_pay8 cs) (k0_pay9 s1) (k0_pay10 s2)⟩,
     ⟨Rect.unit (s := S1x1024x512) ![0, 0, 256] S1x1024x128.size inb_S1x1024x512_S1x1024x128_0_0_256,
        k0_pay4 (k0_pay7 j) (k0_pay9 s1) (k0_pay10 s2) (k0_pay13 (k0_pay2 h w)) (k0_pay14 (k0_pay2 h w) cs) 120#32⟩,
     ⟨Rect.unit (s := S1x1024x512) ![0, 0, 128] S1x1024x128.size inb_S1x1024x512_S1x1024x128_0_0_128,
        k0_pay12 j (k0_pay2 h w) cs s1 s2⟩,
     ⟨Rect.unit (s := S1x1024x512) ![0, 0, 0] S1x1024x128.size inb_S1x1024x512_S1x1024x128_0_0_0,
        k0_pay11 j (k0_pay2 h w) cs s1 s2⟩]

/-- A load of a whole buffer reads what the buffer holds. -/
theorem load_full {S : Shape} {e : EltTy} {a : Memref sig .tc .vmem S e} (h : a.IsWhole) (x : S.Idx → Elt F e)
    {off : Fin S.rank → ℕ} (inb : ∀ k, off k + S.size k ≤ S.size k) :
    a.view.readAt (Elt F) (Rect.unit off S.size inb).toLoadRect (h.unread x) = x :=
  (View.readAt_full a.view _ inb).trans (h.read_unread x)

section Run

variable (c : Dev nD) (i : grid0.Coords)
  (arg2 : Memref sig .tc .vmem S1x1024x2048 .f32) (harg2 : arg2.IsWhole)
  (arg3 : Memref sig .tc .vmem S1x2048 .f32) (harg3 : arg3.IsWhole)
  (arg4 : Memref sig .tc .vmem S1x1x2048 .f32) (harg4 : arg4.IsWhole)
  (arg5 : Memref sig .tc .vmem S1x1x2048 .f32) (harg5 : arg5.IsWhole)
  (arg6 : Memref sig .tc .vmem S1x2048x512 .bf16) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1x1024x512 .f32) (harg10 : arg10.IsWhole)
  (arg11 : Memref sig .tc .vmem S1x1024x512 .bf16) (harg11 : arg11.IsWhole)
  (arg12 : Memref sig .tc .vmem S1024x2048 .bf16) (harg12 : arg12.IsWhole)
  (x0 : Vec F S1x1024x2048 .f32) (x1 : Vec F S1x2048 .f32) (x2 x3 : Vec F S1x1x2048 .f32)
  (x4 : Vec F S1x2048x512 .bf16) (x5 x6 x7 : Vec F S1024x128 .f32)

/-- The body's buffers, all held: the eight inputs, the two outputs and the scratch rows. -/
def held (d8 : Vec F S1x1024x512 .f32) (d9 : Vec F S1x1024x512 .bf16) (s : Vec F S1024x2048 .bf16) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare x5
    ∗ owns (c : Thread nD τ) arg8 fullShare x6 ∗ owns (c : Thread nD τ) arg9 fullShare x7
    ∗ owns (c : Thread nD τ) arg10 fullShare d8 ∗ owns (c : Thread nD τ) arg11 fullShare d9
    ∗ owns (c : Thread nD τ) arg12 fullShare s)

/-- One trip stores one piece: 128 rows, normed. -/
theorem trip_piece (h1 : k0_cond1 i = 1#1) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 h1
        (harg2.unread x0) (harg3.unread x1) (harg4.unread x2) (harg5.unread x3) k
      = [⟨Rect.unit (s := S1024x2048) (k0_off2 k) S128x2048.size (k0_off2_inb i k h1),
          k0_pay1 (chunk x0 ⟨k.val, Nat.lt_of_lt_of_le k.isLt k0_t1_abs.2.1⟩) x1 x2 x3⟩] := by
  have e0 : arg2.view.readAt (Elt F) (Rect.unit (s := S1x1024x2048) (k0_off1 k) S1x128x2048.size (k0_off1_inb i k h1)).toLoadRect (harg2.unread x0)
      = chunk x0 ⟨k.val, Nat.lt_of_lt_of_le k.isLt k0_t1_abs.2.1⟩ := by
    funext z
    rw [View.readAt_unit _ _ _ (k0_off1_eq k) (by rw [← k0_off1_eq k]; exact k0_off1_inb i k h1), harg2.read_unread]
    refine congrArg x0 (funext fun a => Fin.ext ?_)
    fin_cases a <;> simp [VecWindow.window, ix3] <;> omega
  have e1 := load_full harg3 x1 inb_S1x2048_S1x2048_0_0
  have e2 := load_full harg4 x2 inb_S1x1x2048_S1x1x2048_0_0_0
  have e3 := load_full harg5 x3 inb_S1x1x2048_S1x1x2048_0_0_0
  rw [← e0]
  conv_rhs => rw [← e1, ← e2, ← e3]
  unfold tripL_k0_t1 trip_k0_t1
  rfl

/-- Before trip `n` the rows below `128 n` hold the normed rows. -/
theorem rows_read (h1 : k0_cond1 i = 1#1) (g : arg12.view.ty.Contents (Elt F)) :
    ∀ (n : ℕ), n ≤ k0_t1_loop.trips → ∀ y : S1024x2048.Idx, (y 0).val < 128 * n →
      arg12.view.read (Elt F) (arg12.view.writes (Elt F) g
        (pb_k0_t1 (F := F) Variants.none c none i arg2 harg2 arg3 harg3 arg4 harg4 arg5 harg5 arg6 harg6 arg7 harg7 arg8 harg8 arg9 harg9 arg10 harg10 arg11 harg11 arg12 harg12 h1
          (harg2.unread x0) (harg3.unread x1) (harg4.unread x2) (harg5.unread x3) n)) y
        = normed x0 x1 x2 x3 y
  | 0, _, y, hy => absurd hy (by omega)
  | n + 1, hn, y, hy => by
    refine (congrArg (fun L => arg12.view.read (Elt F) (arg12.view.writes (Elt F) g L) y)
      (pb_k0_t1_succ (F := F) Variants.none c none i arg2 harg2 arg3 harg3 arg4 harg4 arg5 harg5 arg6 harg6 arg7 harg7 arg8 harg8 arg9 harg9 arg10 harg10 arg11 harg11 arg12 harg12 h1
        (harg2.unread x0) (harg3.unread x1) (harg4.unread x2) (harg5.unread x3) ⟨n, hn⟩)).trans ?_
    rw [trip_piece, List.singleton_append]
    by_cases hr : (y 0).val < 128 * n
    · refine (View.read_writes_cons_unit_of_not_mem arg12.view g _ _ _ y (k0_off2_eq ⟨n, hn⟩) 0 (.inl hr)).trans ?_
      exact rows_read h1 g n (by omega) y hr
    · have hlt : (y 0).val < 1024 := (y 0).isLt
      have hd : (y 0).val / 128 = n := by omega
      refine (View.read_writes_cons_unit_of_mem arg12.view g _ _ _ y (ix2 (⟨(y 0).val % 128, by omega⟩ : Fin 128) (y 1)) (k0_off2_eq ⟨n, hn⟩)
        (fun a => by fin_cases a <;> simp [ix2] <;> omega)).trans ?_
      unfold normed
      simp only [hd]
      rfl

/-- After the loop the scratch reads as the normed rows. -/
theorem rows_all (h1 : k0_cond1 i = 1#1) (g : arg12.view.ty.Contents (Elt F)) :
      arg12.view.read (Elt F) (arg12.view.writes (Elt F) g
        (pb_k0_t1 (F := F) Variants.none c none i arg2 harg2 arg3 harg3 arg4 harg4 arg5 harg5 arg6 harg6 arg7 harg7 arg8 harg8 arg9 harg9 arg10 harg10 arg11 harg11 arg12 harg12 h1
          (harg2.unread x0) (harg3.unread x1) (harg4.unread x2) (harg5.unread x3) (Scf.trips k0_t1_loop.lb k0_t1_loop.ub k0_t1_loop.st)))
        = normed x0 x1 x2 x3 :=
  funext fun y => rows_read c i arg2 harg2 arg3 harg3 arg4 harg4 arg5 harg5 arg6 harg6 arg7 harg7 arg8 harg8 arg9 harg9 arg10 harg10 arg11 harg11 arg12 harg12 x0 x1 x2 x3 h1 g
    _ (le_refl k0_t1_loop.trips) y (lt_of_lt_of_le (y 0).isLt (by decide +kernel))

set_option maxHeartbeats 1000000 in
/-- At a sequence's first point: the rows are normed and the first block is stored. -/
theorem run_first (h1 : k0_cond1 i = 1#1) (h2 : k0_cond2 i = 1#1) (h3 : ¬k0_cond3 i = 1#1) (h4 : ¬k0_cond4 i = 1#1)
    (d8 : Vec F S1x1024x512 .f32) (d9 : Vec F S1x1024x512 .bf16) (s : Vec F S1024x2048 .bf16) (E : Set ℕ) (K : PUnit → sProp 𝕄) :
    iprop(held c arg2 arg3 arg4 arg5 arg6 arg7 arg8 arg9 arg10 arg11 arg12 x0 x1 x2 x3 x4 x5 x6 x7 d8 d9 s
        ∗ (held c arg2 arg3 arg4 arg5 arg6 arg7 arg8 arg9 arg10 arg11 arg12 x0 x1 x2 x3 x4 x5 x6 x7
            (k0_pay3 (normed x0 x1 x2 x3) x4) d9 (normed x0 x1 x2 x3) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact h1 | sl_exact h2 | sl_exact h3 | sl_exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    refine (View.read_writes_full _ _ _ _ _).trans (congrArg₂ k0_pay3 ?_ (load_full harg6 x4 _))
    exact (View.readAt_full arg12.view _ inb_S1024x2048_S1024x2048_0_0).trans
      (rows_all c i arg2 harg2 arg3 harg3 arg4 harg4 arg5 harg5 arg6 harg6 arg7 harg7 arg8 harg8 arg9 harg9 arg10 harg10 arg11 harg11 arg12 harg12 x0 x1 x2 x3 h1 _)
  isplitl [H9]
  · iexists _; isplitr; · ipureintro; exact hf9
    iexact H9
  iexists _; isplitr
  swap; · iexact HS
  ipureintro
  exact rows_all c i arg2 harg2 arg3 harg3 arg4 harg4 arg5 harg5 arg6 harg6 arg7 harg7 arg8 harg8 arg9 harg9 arg10 harg10 arg11 harg11 arg12 harg12 x0 x1 x2 x3 h1 _

set_option maxHeartbeats 1000000 in
/-- At a later point with a float32 block: it is stored, from the rows as found. -/
theorem run_f32 (h1 : ¬k0_cond1 i = 1#1) (h2 : k0_cond2 i = 1#1) (h3 : ¬k0_cond3 i = 1#1) (h4 : ¬k0_cond4 i = 1#1)
    (d8 : Vec F S1x1024x512 .f32) (d9 : Vec F S1x1024x512 .bf16) (s : Vec F S1024x2048 .bf16) (E : Set ℕ) (K : PUnit → sProp 𝕄) :
    iprop(held c arg2 arg3 arg4 arg5 arg6 arg7 arg8 arg9 arg10 arg11 arg12 x0 x1 x2 x3 x4 x5 x6 x7 d8 d9 s
        ∗ (held c arg2 arg3 arg4 arg5 arg6 arg7 arg8 arg9 arg10 arg11 arg12 x0 x1 x2 x3 x4 x5 x6 x7
            (k0_pay3 s x4) d9 s -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel held
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩⟩, Hk⟩
  obtain rfl := harg6.eq_unread hf4; obtain rfl := harg7.eq_unread hf5; obtain rfl := harg8.eq_unread hf6
  obtain rfl := harg9.eq_unread hf7; obtain rfl := harg12.eq_unread hfs
  sl_exec (disch := first | sl_exact h1 | sl_exact h2 | sl_exact h3 | sl_exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    exact (View.read_writes_full _ _ _ _ _).trans (congrArg₂ k0_pay3 (load_full harg12 s _) (load_full harg6 x4 _))
  isplitl [H9]
  · iexists _; isplitr; · ipureintro; exact hf9
    iexact H9
  iexists _; isplitr; · ipureintro; exact hfs
  iexact HS

set_option maxHeartbeats 1000000 in
/-- At a point with a block of queries or keys. -/
theorem run_turned (h1 : ¬k0_cond1 i = 1#1) (h2 : ¬k0_cond2 i = 1#1) (h3 : k0_cond3 i = 1#1) (h4 : ¬k0_cond4 i = 1#1)
    (d8 : Vec F S1x1024x512 .f32) (d9 : Vec F S1x1024x512 .bf16) (s : Vec F S1024x2048 .bf16) (E : Set ℕ) (K : PUnit → sProp 𝕄) :
    iprop(held c arg2 arg3 arg4 arg5 arg6 arg7 arg8 arg9 arg10 arg11 arg12 x0 x1 x2 x3 x4 x5 x6 x7 d8 d9 s
        ∗ (held c arg2 arg3 arg4 arg5 arg6 arg7 arg8 arg9 arg10 arg11 arg12 x0 x1 x2 x3 x4 x5 x6 x7
            d8 (turned (BitVec.ofNat 32 (i 1).val) s x4 x5 x6 x7) s -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel held
  simp only [k0_part1_eq_skeleton]; unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩⟩, Hk⟩
  obtain rfl := harg6.eq_unread hf4; obtain rfl := harg7.eq_unread hf5; obtain rfl := harg8.eq_unread hf6
  obtain rfl := harg9.eq_unread hf7; obtain rfl := harg12.eq_unread hfs
  sl_exec (disch := first | sl_exact h1 | sl_exact h2 | sl_exact h3 | sl_exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    have e : turned (BitVec.ofNat 32 (i 1).val) s x4 x5 x6 x7 = turned (BitVec.ofNat 32 (i 1).val)
        (arg12.view.readAt (Elt F) (Rect.unit (s := S1024x2048) ![0, 0] S1024x2048.size inb_S1024x2048_S1024x2048_0_0).toLoadRect (harg12.unread s))
        (arg6.view.readAt (Elt F) (Rect.unit (s := S1x2048x512) ![0, 0, 0] S1x2048x512.size inb_S1x2048x512_S1x2048x512_0_0_0).toLoadRect (harg6.unread x4))
        (arg7.view.readAt (Elt F) (Rect.unit (s := S1024x128) ![0, 0] S1024x128.size inb_S1024x128_S1024x128_0_0).toLoadRect (harg7.unread x5))
        (arg8.view.readAt (Elt F) (Rect.unit (s := S1024x128) ![0, 0] S1024x128.size inb_S1024x128_S1024x128_0_0).toLoadRect (harg8.unread x6))
        (arg9.view.readAt (Elt F) (Rect.unit (s := S1024x128) ![0, 0] S1024x128.size inb_S1024x128_S1024x128_0_0).toLoadRect (harg9.unread x7)) := by
      rw [load_full, load_full, load_full, load_full, load_full]
    rw [e]
    exact View.read_writes_eq_canon _ _ _ fun y => View.cover_of_tiledBy _ ![1, 1024, 128] (by sl_kernel_rfl) y
  iexists _; isplitr; · ipureintro; exact hfs
  iexact HS

set_option maxHeartbeats 1000000 in
/-- At a point with a block of values. -/
theorem run_values (h1 : ¬k0_cond1 i = 1#1) (h2 : ¬k0_cond2 i = 1#1) (h3 : ¬k0_cond3 i = 1#1) (h4 : k0_cond4 i = 1#1)
    (d8 : Vec F S1x1024x512 .f32) (d9 : Vec F S1x1024x512 .bf16) (s : Vec F S1024x2048 .bf16) (E : Set ℕ) (K : PUnit → sProp 𝕄) :
    iprop(held c arg2 arg3 arg4 arg5 arg6 arg7 arg8 arg9 arg10 arg11 arg12 x0 x1 x2 x3 x4 x5 x6 x7 d8 d9 s
        ∗ (held c arg2 arg3 arg4 arg5 arg6 arg7 arg8 arg9 arg10 arg11 arg12 x0 x1 x2 x3 x4 x5 x6 x7
            d8 (k0_pay6 s x4) s -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel held
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩⟩, Hk⟩
  obtain rfl := harg6.eq_unread hf4; obtain rfl := harg7.eq_unread hf5; obtain rfl := harg8.eq_unread hf6
  obtain rfl := harg9.eq_unread hf7; obtain rfl := harg12.eq_unread hfs
  sl_exec (disch := first | sl_exact h1 | sl_exact h2 | sl_exact h3 | sl_exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    exact (View.read_writes_full _ _ _ _ _).trans (congrArg₂ k0_pay6 (load_full harg12 s _) (load_full harg6 x4 _))
  iexists _; isplitr; · ipureintro; exact hfs
  iexact HS

end Run

end Cert.Kernel5Ideal.In

end
-- ==== Proof.SecondInFrame.lean ====
/- The input projection's run over its 520 points: what each output's buffer holds after each point, the
   scratch rows carried from a sequence half's first point to its last, and the frame.
   This is the second layer's call; the first layer's is read the same way in `InFrame`. -/
module

public import proofs.«01_k».proof.Proof.SecondInBody
public import Idealize.ShloMosaic.Lib.Pipeline.TableIdle
public import Idealize.ShloMosaic.Lib.Claim

@[expose] public section

set_option maxRecDepth 16384

noncomputable section

namespace Cert.Kernel5Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

/-! ## The points -/

theorem lt_520 (t : Fin cfg0.N) : t.val < 520 := lt_of_lt_of_eq t.isLt N_0

theorem first_iff : ∀ t : Fin cfg0.N, k0_cond1 (grid0.coords t) = 1#1 ↔ t.val % 13 = 0 := by decide +kernel
theorem f32_iff : ∀ t : Fin cfg0.N, k0_cond2 (grid0.coords t) = 1#1 ↔ ¬(5 ≤ t.val % 13 ∧ t.val % 13 < 11) := by decide +kernel
theorem turned_iff : ∀ t : Fin cfg0.N, k0_cond3 (grid0.coords t) = 1#1 ↔ (5 ≤ t.val % 13 ∧ t.val % 13 < 9) := by decide +kernel
theorem values_iff : ∀ t : Fin cfg0.N, k0_cond4 (grid0.coords t) = 1#1 ↔ (9 ≤ t.val % 13 ∧ t.val % 13 < 11) := by decide +kernel
theorem idle8_iff : ∀ t : Fin cfg0.N, cfg0.idle 8 (grid0.coords t) = decide (5 ≤ t.val % 13 ∧ t.val % 13 < 11) := by decide +kernel
theorem idle9_iff : ∀ t : Fin cfg0.N, cfg0.idle 9 (grid0.coords t) = !decide (5 ≤ t.val % 13 ∧ t.val % 13 < 11) := by decide +kernel
theorem flush8_iff : ∀ t : Fin cfg0.N, (cfg0.win 8).flush t = !decide (4 ≤ t.val % 13 ∧ t.val % 13 < 10) := by decide +kernel
theorem flush9_iff : ∀ t : Fin cfg0.N, (cfg0.win 9).flush t = decide (5 ≤ t.val % 13 ∧ t.val % 13 ≠ 10 ∧ t.val % 13 ≠ 11) := by decide +kernel

/-- The first point of the sequence half a point belongs to, and that half's `j`-th point. -/
def at_ (t : Fin cfg0.N) (j : Fin 13) : Fin cfg0.N :=
  ⟨13 * (t.val / 13) + j.val, lt_of_lt_of_eq (by have := lt_520 t; have := j.isLt; omega) (show 520 = cfg0.N from N_0.symm)⟩

variable (m : (ℓ : Loc nD τ sig) → Buf (Elt F) ℓ) (ρ : Dev nD → PrngReg)

/-- The rows the scratch holds from a half's first point on. -/
def rows (c : Dev nD) (t : Fin cfg0.N) : Vec F S1024x2048 .bf16 :=
  normed (iblk m c 0 (at_ t 0)) (iblk m c 1 (at_ t 0)) (iblk m c 2 (at_ t 0)) (iblk m c 3 (at_ t 0))

/-- The float32 block a point computes. -/
def out8 (c : Dev nD) (t : Fin cfg0.N) : Vec F S1x1024x512 .f32 := k0_pay3 (rows m c t) (iblk m c 4 t)

/-- The bfloat16 block a point computes. -/
def out9 (c : Dev nD) (t : Fin cfg0.N) : Vec F S1x1024x512 .bf16 :=
  if t.val % 13 < 9 then
    turned (BitVec.ofNat 32 (grid0.coords t 1).val) (rows m c t) (iblk m c 4 t) (iblk m c 5 t) (iblk m c 6 t) (iblk m c 7 t)
  else k0_pay6 (rows m c t) (iblk m c 4 t)

/-- The point whose float32 block the buffer holds after a point: a point without one keeps the fifth's. -/
def from8 (t : Fin cfg0.N) : Fin cfg0.N := if 5 ≤ t.val % 13 ∧ t.val % 13 < 11 then at_ t 4 else t
/-- The point whose bfloat16 block the buffer holds after a point, from the sixth on. -/
def from9 (t : Fin cfg0.N) : Fin cfg0.N := if 11 ≤ t.val % 13 then at_ t 10 else t

/-- The scratch, the whole memref. -/
abbrev scr : Memref sig .tc .vmem S1024x2048 .bf16 := Memref.whole cc0_scratch0

/-- Between points: the scratch at some rows — the half's own, unless a new half begins — and the generator register. -/
def Phi (c : Dev nD) (n : ℕ) : sProp 𝕄 :=
  iprop((∃ s, owns (c : Thread nD τ) scr fullShare s ∗ ⌜∀ h : n < cfg0.N, n % 13 ≠ 0 → s = rows m c ⟨n, h⟩⌝) ∗ (∃ r, prngReg c r))

/-- The proof data: inputs stay at their blocks, the outputs hold the block last computed for them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 m c (from8 t)
    | ⟨9, _⟩ => out9 m c (from9 t)
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out8 m c (from8 t) := by dsimp only [dats]
theorem after_9 (c : Dev nD) (t : Fin cfg0.N) : (dats m 0 c).after 9 t = out9 m c (from9 t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-! ## What the idle points carry -/

theorem fetch8 (t : Fin cfg0.N) : (cfg0.win 8).fetch t = false := rfl
theorem fetch9 (t : Fin cfg0.N) : (cfg0.win 9).fetch t = false := rfl

/-- At a half's eleventh point the float32 buffer still holds the fifth point's block. -/
theorem kept8 (c : Dev nD) (t : Fin cfg0.N) (ht : t.val % 13 = 10) (d) :
    (dats m 0 c).before 8 t d = out8 m c (at_ t 4) := by
  rw [(dats m 0 c).before_idle_run 8 fetch8 d 5 t (by omega) fun j h1 h2 => by
    rw [idle8_iff, flush8_iff]; constructor <;> simp <;> omega]
  rw [(dats m 0 c).before_of_pos 8 _ (by simp only; omega) (fetch8 _) d, flush8_iff, if_neg (by simp; omega)]
  unfold Dat.left
  rw [idle8_iff, decide_eq_false (by simp only; omega)]
  show (cfg0.win 8).fill _ _ ((cfg0.win 8).cut _ ((dats m 0 c).after 8 _)) = _
  rw [Pipeline.fill_of_clip_none (cfg := cfg0) 8 _ (fun _ => rfl) d ((dats m 0 c).after 8 _), (cfg0.win 8).fill_cut, after_8]
  refine congrArg (out8 m c) (Fin.ext ?_)
  unfold from8 at_
  rw [if_neg (by simp only; omega)]
  show t.val - 5 - 1 = 13 * (t.val / 13) + 4
  omega

/-- At a half's last point the bfloat16 buffer still holds the eleventh point's block. -/
theorem kept9 (c : Dev nD) (t : Fin cfg0.N) (ht : t.val % 13 = 12) (d) :
    (dats m 0 c).before 9 t d = out9 m c (at_ t 10) := by
  rw [(dats m 0 c).before_idle_run 9 fetch9 d 1 t (by omega) fun j h1 h2 => by
    rw [idle9_iff, flush9_iff]; constructor <;> simp <;> omega]
  rw [(dats m 0 c).before_of_pos 9 _ (by simp only; omega) (fetch9 _) d, flush9_iff, if_neg (by simp; omega)]
  unfold Dat.left
  rw [idle9_iff, decide_eq_true (by simp only; omega)]
  show (cfg0.win 9).fill _ _ ((cfg0.win 9).cut _ ((dats m 0 c).after 9 _)) = _
  rw [Pipeline.fill_of_clip_none (cfg := cfg0) 9 _ (fun _ => rfl) d ((dats m 0 c).after 9 _), (cfg0.win 9).fill_cut, after_9]
  refine congrArg (out9 m c) (Fin.ext ?_)
  unfold from9 at_
  rw [if_neg (by simp only; omega)]
  show t.val - 1 - 1 = 13 * (t.val / 13) + 10
  omega

/-! ## The body at every point -/

theorem scratch_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The half's rows are the same at every point of the half. -/
theorem rows_next (c : Dev nD) (t : Fin cfg0.N) (h : t.val + 1 < cfg0.N) (hj : (t.val + 1) % 13 ≠ 0) :
    rows m c ⟨t.val + 1, h⟩ = rows m c t := by
  have e : at_ ⟨t.val + 1, h⟩ 0 = at_ t 0 := Fin.ext (by show 13 * ((t.val + 1) / 13) + 0 = 13 * (t.val / 13) + 0; omega)
  unfold rows; rw [e]

/-- A half's first point norms its own rows. -/
theorem rows_first (c : Dev nD) (t : Fin cfg0.N) (h : t.val % 13 = 0) :
    rows m c t = normed (iblk m c 0 t) (iblk m c 1 t) (iblk m c 2 t) (iblk m c 3 t) := by
  have e : at_ t 0 = t := Fin.ext (by show 13 * (t.val / 13) + 0 = t.val; omega)
  unfold rows; rw [e]

/-- The body at a point, whatever the point: given what it does to its buffers, with what the outputs' buffers
    then hold as the point asks. -/
theorem body_at (c : Dev nD) (t : Fin cfg0.N)
    (o8 : Vec F S1x1024x512 .f32 → Vec F S1x1024x512 .f32) (o9 : Vec F S1x1024x512 .bf16 → Vec F S1x1024x512 .bf16)
    (run : ∀ d8 d9 s (K : PUnit → sProp 𝕄), (t.val % 13 ≠ 0 → s = rows m c t) →
      iprop(held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) scr
            (iblk m c 0 t) (iblk m c 1 t) (iblk m c 2 t) (iblk m c 3 t) (iblk m c 4 t) (iblk m c 5 t) (iblk m c 6 t) (iblk m c 7 t) d8 d9 s
          ∗ (held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) scr
            (iblk m c 0 t) (iblk m c 1 t) (iblk m c 2 t) (iblk m c 3 t) (iblk m c 4 t) (iblk m c 5 t) (iblk m c 6 t) (iblk m c 7 t) (o8 d8) (o9 d9) (rows m c t) -∗ K ⟨⟩))
        ⊢ wp frame (wpE (defs₀ (F := F)) Variants.none c none) Set.univ (bodyAt0 t) K)
    (h8 : ∀ d, (owns (c : Thread nD τ) (win0_8.stage (cfg0.slots t 8)) fullShare (o8 ((dats m 0 c).before 8 t d)) : sProp 𝕄) ⊢ (dats m 0 c).leavesExact 8 t)
    (h9 : ∀ d, (owns (c : Thread nD τ) (win0_9.stage (cfg0.slots t 9)) fullShare (o9 ((dats m 0 c).before 9 t d)) : sProp 𝕄) ⊢ (dats m 0 c).leavesExact 9 t) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))
      ∗ (∃ d, owns (c : Thread nD τ) (win0_9.stage (cfg0.slots t 9)) fullShare ((dats m 0 c).before 9 t d)))
    ⊢ wp frame (wpE (defs₀ (F := F)) Variants.none c none) Set.univ (bodyAt0 t) fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t ∗ (dats m 0 c).leavesExact 5 t
        ∗ (dats m 0 c).leavesExact 6 t ∗ (dats m 0 c).leavesExact 7 t ∗ (dats m 0 c).leavesExact 8 t
        ∗ (dats m 0 c).leavesExact 9 t) := by
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  simp only [before_0, before_1, before_2, before_3, before_4, before_5, before_6, before_7]
  rw [show (dats m 0 c).leavesExact 0 t = owns (c : Thread nD τ) (win0_0.stage (cfg0.slots t 0)) fullShare (iblk m c 0 t) from by
    show owns _ _ _ ((dats m 0 c).after 0 t) = _; rw [after_0]]
  rw [show (dats m 0 c).leavesExact 1 t = owns (c : Thread nD τ) (win0_1.stage (cfg0.slots t 1)) fullShare (iblk m c 1 t) from by
    show owns _ _ _ ((dats m 0 c).after 1 t) = _; rw [after_1]]
  rw [show (dats m 0 c).leavesExact 2 t = owns (c : Thread nD τ) (win0_2.stage (cfg0.slots t 2)) fullShare (iblk m c 2 t) from by
    show owns _ _ _ ((dats m 0 c).after 2 t) = _; rw [after_2]]
  rw [show (dats m 0 c).leavesExact 3 t = owns (c : Thread nD τ) (win0_3.stage (cfg0.slots t 3)) fullShare (iblk m c 3 t) from by
    show owns _ _ _ ((dats m 0 c).after 3 t) = _; rw [after_3]]
  rw [show (dats m 0 c).leavesExact 4 t = owns (c : Thread nD τ) (win0_4.stage (cfg0.slots t 4)) fullShare (iblk m c 4 t) from by
    show owns _ _ _ ((dats m 0 c).after 4 t) = _; rw [after_4]]
  rw [show (dats m 0 c).leavesExact 5 t = owns (c : Thread nD τ) (win0_5.stage (cfg0.slots t 5)) fullShare (iblk m c 5 t) from by
    show owns _ _ _ ((dats m 0 c).after 5 t) = _; rw [after_5]]
  rw [show (dats m 0 c).leavesExact 6 t = owns (c : Thread nD τ) (win0_6.stage (cfg0.slots t 6)) fullShare (iblk m c 6 t) from by
    show owns _ _ _ ((dats m 0 c).after 6 t) = _; rw [after_6]]
  rw [show (dats m 0 c).leavesExact 7 t = owns (c : Thread nD τ) (win0_7.stage (cfg0.slots t 7)) fullShare (iblk m c 7 t) from by
    show owns _ _ _ ((dats m 0 c).after 7 t) = _; rw [after_7]]
  unfold Phi
  iintro ⟨⟨⟨%s, HS, %hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run ((dats m 0 c).before 8 t d8) ((dats m 0 c).before 9 t d9) s _ (fun h => hs t.isLt h))
  unfold held
  isplitl [H0 H1 H2 H3 H4 H5 H6 H7 H8 H9 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iintro ⟨H0, H1, H2, H3, H4, H5, H6, H7, H8, H9, HS⟩
  isplitl [HS Hg]
  · isplitl [HS]
    · iexists _; isplitl [HS]; · iexact HS
      ipureintro
      intro h hj
      exact (rows_next m c t h hj).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (h8 d8); iexact H8
  iapply (h9 d9); iexact H9

/-- The body obligation: four kinds of point. -/
theorem body_obligation (c : Dev nD) : BodyObligation (dats (F := F) m 0 c) (defs₀ (F := F)) Variants.none () Set.univ := fun t => by
  rw [bigSep_W0, bigSep_W0, show (defs₀ (F := F)) .tc cfg0.body (cfg0.bodyArgs t (cfg0.slots t)) = bodyAt0 t from by unfold defs₀; rw [Defs.onTc_tc]]
  have hN := lt_520 t
  have own8 : ¬(5 ≤ t.val % 13 ∧ t.val % 13 < 11) →
      (dats m 0 c).leavesExact 8 t = owns (c : Thread nD τ) (win0_8.stage (cfg0.slots t 8)) fullShare (out8 m c t) := fun h => by
    unfold Dat.leavesExact; rw [idle8_iff, decide_eq_false h, after_8]
    unfold from8; rw [if_neg h]
  have own9 : (5 ≤ t.val % 13 ∧ t.val % 13 < 11) →
      (dats m 0 c).leavesExact 9 t = owns (c : Thread nD τ) (win0_9.stage (cfg0.slots t 9)) fullShare (out9 m c t) := fun h => by
    unfold Dat.leavesExact; rw [idle9_iff, decide_eq_true h, after_9]
    unfold from9; rw [if_neg (by omega)]; rfl
  have kept8' : (5 ≤ t.val % 13 ∧ t.val % 13 < 11) → ∀ d,
      (owns (c : Thread nD τ) (win0_8.stage (cfg0.slots t 8)) fullShare ((dats m 0 c).before 8 t d) : sProp 𝕄) ⊢ (dats m 0 c).leavesExact 8 t := fun h d => by
    unfold Dat.leavesExact; rw [idle8_iff, decide_eq_true h, flush8_iff]
    by_cases h10 : t.val % 13 = 10
    · rw [decide_eq_false (by omega), kept8 m c t h10 d, after_8]
      unfold from8; rw [if_pos h]
      exact Entails.refl _
    · rw [decide_eq_true (by omega)]
      exact exists_intro (Φ := fun d => owns _ _ _ _) d
  have kept9' : ¬(5 ≤ t.val % 13 ∧ t.val % 13 < 11) → ∀ d,
      (owns (c : Thread nD τ) (win0_9.stage (cfg0.slots t 9)) fullShare ((dats m 0 c).before 9 t d) : sProp 𝕄) ⊢ (dats m 0 c).leavesExact 9 t := fun h d => by
    unfold Dat.leavesExact; rw [idle9_iff, decide_eq_false h, flush9_iff]
    by_cases h12 : t.val % 13 = 12
    · rw [decide_eq_true (by omega), kept9 m c t h12 d, after_9]
      unfold from9; rw [if_pos (by omega)]
      exact Entails.refl _
    · rw [decide_eq_false (by omega)]
      exact exists_intro (Φ := fun d => owns _ _ _ _) d
  by_cases h5 : 5 ≤ t.val % 13 ∧ t.val % 13 < 11
  · by_cases h9 : t.val % 13 < 9
    · refine body_at m c t id (fun _ => out9 m c t) (fun d8 d9 s K hs => ?_) (kept8' h5) (fun d => by rw [own9 h5])
      obtain rfl := hs (by omega)
      have e : out9 m c t = _ := if_pos h9
      rw [e]
      exact run_turned c (grid0.coords t) _ _ _ _ _ _ _ _ _ _ _ _ _ _ _ _ _ _ _ _ _ _ _ _ _ _ _ _ _ _
        (mt (first_iff t).mp (by omega)) (mt (f32_iff t).mp (by omega)) ((turned_iff t).mpr (by omega)) (mt (values_iff t).mp (by omega)) d8 d9 _ _ K
    · refine body_at m c t id (fun _ => out9 m c t) (fun d8 d9 s K hs => ?_) (kept8' h5) (fun d => by rw [own9 h5])
      obtain rfl := hs (by omega)
      have e : out9 m c t = _ := if_neg h9
      rw [e]
      exact run_values c (grid0.coords t) _ _ _ _ _ _ _ _ _ _ _ _ _ _ _ _ _ _ _ _ _ _ _ _ _ _ _ _ _ _
        (mt (first_iff t).mp (by omega)) (mt (f32_iff t).mp (by omega)) (mt (turned_iff t).mp (by omega)) ((values_iff t).mpr (by omega)) d8 d9 _ _ K
  · refine body_at m c t (fun _ => out8 m c t) id (fun d8 d9 s K hs => ?_) (fun d => by rw [own8 h5]) (kept9' h5)
    by_cases h0 : t.val % 13 = 0
    · unfold out8
      rw [rows_first m c t h0]
      exact run_first c (grid0.coords t) _ _ _ _ _ _ _ _ _ _ _ _ _ _ _ _ _ _ _ _ _ _ _ _ _ _ _ _ _ _
        ((first_iff t).mpr h0) ((f32_iff t).mpr h5) (mt (turned_iff t).mp (by omega)) (mt (values_iff t).mp (by omega)) d8 d9 s _ K
    · obtain rfl := hs h0
      exact run_f32 c (grid0.coords t) _ _ _ _ _ _ _ _ _ _ _ _ _ _ _ _ _ _ _ _ _ _ _ _ _ _ _ _ _ _
        (mt (first_iff t).mp h0) ((f32_iff t).mpr h5) (mt (turned_iff t).mp (by omega)) (mt (values_iff t).mp (by omega)) d8 d9 _ _ K

theorem hin (c : Dev nD) : Pipeline.ΦA spec0 c ⊢ (dats m 0 c).Φ 0 := by
  rw [show (dats m 0 c).Φ 0 = Phi m c 0 from rfl, scratch_eq]; unfold Phi
  iintro ⟨⟨%d, H⟩, Hg⟩
  isplitl [H]
  · iexists _; isplitl [H]; · iexact H
    ipureintro; intro _ h; exact absurd rfl h
  iexact Hg

theorem hout (c : Dev nD) : (dats m 0 c).Φ (Fin.last cfg0.N) ⊢ Pipeline.ΦA spec0 c := by
  rw [show (dats m 0 c).Φ (Fin.last cfg0.N) = Phi m c cfg0.N from rfl, scratch_eq]; unfold Phi
  iintro ⟨⟨%d, H, -⟩, Hg⟩
  isplitl [H]
  · iexists _; iexact H
  iexact Hg

/-! ## The run and the frame -/

set_option backward.isDefEq.respectTransparency.types false in
/-- Every execution ends, with every array at what the points wrote back and no semaphore counting. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged, and no semaphore counts. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel5Ideal.In

end
-- ==== Proof.SecondInTables.lean ====
/- The input projection's arrays when its grid begins: the three tables of angles, and the weight as one row.
   This is the second layer's call; the first layer's is read the same way in `InTables`. -/
module

public import proofs.«01_k».proof.Proof.SecondInFrame
public import proofs.«01_k».proof.Proof.InMath
public import Idealize.ShloMosaic.Lib.Pipeline.Value

@[expose] public section

set_option maxRecDepth 16384

noncomputable section

namespace Cert.Kernel5Ideal.In

open Cert.Kernel5Ideal Cert.Kernel5Ideal.Gen Idealize.ShloMosaic Idealize.ShloMosaic.TcCoe Idealize.SL.Sem
open Idealize.ShloMosaic.Pipeline (Dat)
open Cert.In

variable (m : (ℓ : Loc nD τ sig) → Buf (Elt Ideal) ℓ)

theorem weight_row (c : Dev nD) (k : Fin 2048) :
    V m c main_v30 (ix2 0 k) = m ((c : Thread nD τ).loc main_arg1) (ix1 k) := by
  unfold_abbrev_sides
  after_results
  pointwise []

theorem own_table (c : Dev nD) (l : Fin 2048) (d : Fin 128) : V m c main_v20 (ix2 l d) = own l d := by
  unfold_abbrev_sides
  after_results
  pointwise []
  after_results_simp
  pointwise []
  unfold own angle
  by_cases h : d.val % 64 < 8
  · rw [dif_pos h, dif_pos h]
  · rw [dif_neg h, dif_neg h]
    by_cases h' : d.val % 64 < 16
    · rw [dif_pos (show d.val % 64 - 8 < 8 by omega), dif_pos h']
    · rw [dif_neg (show ¬d.val % 64 - 8 < 8 by omega), dif_neg h']

theorem above_table (c : Dev nD) (l : Fin 2048) (d : Fin 128) : V m c main_v25 (ix2 l d) = above l d := by
  unfold_abbrev_sides
  after_results
  pointwise []
  after_results_simp
  pointwise []
  unfold above angle
  by_cases h : d.val % 64 < 8
  · rw [dif_pos h, dif_pos h]
  · rw [dif_neg h, dif_neg h]
    split <;> rfl

theorem below_table (c : Dev nD) (l : Fin 2048) (d : Fin 128) : V m c main_v29 (ix2 l d) = below l d := by
  unfold_abbrev_sides
  after_results
  pointwise []
  after_results_simp
  pointwise []
  unfold below angle
  by_cases h : d.val % 64 < 8
  · rw [dif_pos h, dif_pos h]
  · rw [dif_neg h, dif_neg h]
    by_cases h' : d.val % 64 < 16
    · rw [dif_pos (show d.val % 64 - 8 < 8 by omega), dif_pos h']
    · rw [dif_neg (show ¬d.val % 64 - 8 < 8 by omega), dif_neg h']

end Cert.Kernel5Ideal.In

end
-- ==== Proof.SecondInArray.lean ====
/- The input projection's two results, element by element, as functions of its arguments: what a grid point's blocks
   hold, and the blocks put together.
   This is the second layer's call; the first layer's is read the same way in `InArray`. -/
module

public import proofs.«01_k».proof.Proof.SecondInTables
public import proofs.«01_k».proof.Proof.InArray

@[expose] public section

set_option maxRecDepth 16384

noncomputable section

namespace Cert.Kernel5Ideal.In

open Cert.Kernel5Ideal Cert.Kernel5Ideal.Gen Idealize.ShloMosaic Idealize.ShloMosaic.TcCoe Idealize.SL.Sem
open Idealize.ShloMosaic.Pipeline (Dat)
open Cert.In
open Cert.Kernel2Ideal.In (byTables)

/-! ## A block's entries, from the blocks a point finds: the first layer's point makes the same of them -/

theorem product_apply (h : Vec Ideal S1024x2048 .bf16) (w : Vec Ideal S1x2048x512 .bf16) (r : Fin 1024) (y : Fin 512) :
    k0_pay2 h w (ix2 r y) = ∑ k, h (ix2 r k) * w (ix3 0 k y) :=
  Cert.Kernel2Ideal.In.product_apply h w r y

theorem turned_apply (j : BitVec 32) (h : Vec Ideal S1024x2048 .bf16) (w : Vec Ideal S1x2048x512 .bf16)
    (a b e : Vec Ideal S1024x128 .f32) (r : Fin 1024) (q : Fin 4) (d : Fin 128) :
    turned j h w a b e (ix3 0 r ⟨128 * q.val + d.val, by omega⟩) = byTables (k0_pay7 (F := Ideal) j) (k0_pay2 h w) a b e r q d :=
  Cert.Kernel2Ideal.In.turned_apply j h w a b e r q d

variable (m : (ℓ : Loc nD τ sig) → Buf (Elt Ideal) ℓ)

theorem blocks_at : ∀ t : Fin cfg0.N,
    win0_0.index t = ![t.val / 26, t.val / 13 % 2, 0] ∧ win0_1.index t = ![0, 0] ∧ win0_2.index t = ![t.val / 26, 0, 0]
      ∧ win0_3.index t = ![t.val / 26, 0, 0] ∧ win0_4.index t = ![1, 0, t.val % 13]
      ∧ win0_5.index t = ![t.val / 13 % 2, 0] ∧ win0_6.index t = ![t.val / 13 % 2, 0] ∧ win0_7.index t = ![t.val / 13 % 2, 0]
      ∧ win0_8.index t = ![t.val / 26, t.val / 13 % 2, if t.val % 13 < 5 then t.val % 13 else if t.val % 13 < 11 then 4 else t.val % 13 - 6]
      ∧ win0_9.index t = ![t.val / 26, t.val / 13 % 2, if t.val % 13 < 5 then 0 else if t.val % 13 < 11 then t.val % 13 - 5 else 5] := by
  decide +kernel

/-- A point's sequence, and a row of its half. -/
def seqOf (t : Fin cfg0.N) : Fin 20 := ⟨t.val / 26, by have := lt_520 t; omega⟩
def rowOf (t : Fin cfg0.N) (r : Fin 1024) : Fin 2048 := ⟨1024 * (t.val / 13 % 2) + r.val, by omega⟩

theorem rows_apply (c : Dev nD) (t : Fin cfg0.N) (r : Fin 1024) (k : Fin 2048) :
    rows m c t (ix2 r k) = Cert.In.hidden (m ((c : Thread nD τ).loc main_arg0)) (m ((c : Thread nD τ).loc main_arg1))
      (m ((c : Thread nD τ).loc main_arg2)) (m ((c : Thread nD τ).loc main_arg3)) (seqOf t) (rowOf t r) k := by
  obtain ⟨e0, e1, e2, e3, -⟩ := blocks_at (at_ t 0)
  unfold rows normed Cert.In.hidden
  pointwise [k0_pay1]
  have h0 : (at_ t 0).val = 13 * (t.val / 13) := rfl
  have hs : (seqOf t).val = t.val / 26 := rfl
  have hr : (rowOf t r).val = 1024 * (t.val / 13 % 2) + r.val := rfl
  blk_point [chunk, iblk, e0, e1, e2, e3]

theorem weights_apply (c : Dev nD) (t : Fin cfg0.N) (k : Fin 2048) (y : Fin 512) :
    iblk m c 4 t (ix3 0 k y) = m ((c : Thread nD τ).loc main_arg4) (ix3 1 k ⟨512 * (t.val % 13) + y.val, by omega⟩) := by
  obtain ⟨-, -, -, -, e4, -⟩ := blocks_at t
  blk_point [iblk, V, e4]

theorem own_apply (c : Dev nD) (t : Fin cfg0.N) (r : Fin 1024) (d : Fin 128) :
    iblk m c 5 t (ix2 r d) = own (rowOf t r) d := by
  obtain ⟨-, -, -, -, -, e5, -⟩ := blocks_at t
  rw [← own_table m c]
  have hr : (rowOf t r).val = 1024 * (t.val / 13 % 2) + r.val := rfl
  blk_point [iblk, e5]

theorem above_apply (c : Dev nD) (t : Fin cfg0.N) (r : Fin 1024) (d : Fin 128) :
    iblk m c 6 t (ix2 r d) = above (rowOf t r) d := by
  obtain ⟨-, -, -, -, -, -, e6, -⟩ := blocks_at t
  rw [← above_table m c]
  have hr : (rowOf t r).val = 1024 * (t.val / 13 % 2) + r.val := rfl
  blk_point [iblk, e6]

theorem below_apply (c : Dev nD) (t : Fin cfg0.N) (r : Fin 1024) (d : Fin 128) :
    iblk m c 7 t (ix2 r d) = below (rowOf t r) d := by
  obtain ⟨-, -, -, -, -, -, -, e7, -⟩ := blocks_at t
  rw [← below_table m c]
  have hr : (rowOf t r).val = 1024 * (t.val / 13 % 2) + r.val := rfl
  blk_point [iblk, e7]

/-- The results as functions of the argument arrays as launched. -/
def restOf (c : Dev nD) : S20x2048x3584.Idx → EReal :=
  rest (m ((c : Thread nD τ).loc main_arg0)) (m ((c : Thread nD τ).loc main_arg1)) (m ((c : Thread nD τ).loc main_arg2))
    (m ((c : Thread nD τ).loc main_arg3)) (m ((c : Thread nD τ).loc main_arg4)) 1
def headsOf (c : Dev nD) : S20x2048x3072.Idx → EReal :=
  heads (m ((c : Thread nD τ).loc main_arg0)) (m ((c : Thread nD τ).loc main_arg1)) (m ((c : Thread nD τ).loc main_arg2))
    (m ((c : Thread nD τ).loc main_arg3)) (m ((c : Thread nD τ).loc main_arg4)) 1
def projOf (c : Dev nD) : Fin 20 → Fin 2048 → Fin 6656 → EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) 1

theorem columns_apply (c : Dev nD) (t : Fin cfg0.N) (r : Fin 1024) (y : Fin 512) :
    k0_pay2 (rows m c t) (iblk m c 4 t) (ix2 r y) = projOf m c (seqOf t) (rowOf t r) ⟨512 * (t.val % 13) + y.val, by omega⟩ := by
  rw [product_apply]
  unfold projOf proj
  exact Finset.sum_congr rfl fun k _ => by rw [rows_apply, weights_apply]

theorem out8_apply (c : Dev nD) (t : Fin cfg0.N) (r : Fin 1024) (y : Fin 512) :
    out8 m c t (ix3 0 r y) = projOf m c (seqOf t) (rowOf t r) ⟨512 * (t.val % 13) + y.val, by omega⟩ := by
  rw [← columns_apply]
  unfold out8
  pointwise [k0_pay3]

theorem scale_apply (j : Fin 13) : k0_pay7 (F := Ideal) (BitVec.ofNat 32 j.val) = if j.val < 7 then Ideal.ofBits .f32 0x3E38AA3B#32 else 1 :=
  Cert.Kernel2Ideal.In.scale_apply j

theorem out9_values (c : Dev nD) (t : Fin cfg0.N) (h : 9 ≤ t.val % 13) (r : Fin 1024) (y : Fin 512) :
    out9 m c t (ix3 0 r y) = projOf m c (seqOf t) (rowOf t r) ⟨512 * (t.val % 13) + y.val, by omega⟩ := by
  rw [← columns_apply]
  unfold out9
  rw [if_neg (by omega)]
  pointwise [k0_pay6]

theorem coord_one : ∀ t : Fin cfg0.N, (grid0.coords t 1).val = t.val % 13 := by decide +kernel

theorem out9_turned (c : Dev nD) (t : Fin cfg0.N) (h : t.val % 13 < 9) (r : Fin 1024) (q : Fin 4) (d : Fin 128) :
    out9 m c t (ix3 0 r ⟨128 * q.val + d.val, by omega⟩)
      = turn (rowOf t r) (fun e => projOf m c (seqOf t) (rowOf t r) ⟨512 * (t.val % 13) + (128 * q.val + (64 * (d.val / 64) + e.val)), by omega⟩)
          ⟨d.val % 64, by omega⟩ * if t.val % 13 < 7 then Ideal.ofBits .f32 0x3E38AA3B#32 else 1 := by
  unfold out9
  rw [if_pos h, turned_apply]
  unfold byTables
  rw [own_apply, above_apply, below_apply, columns_apply, columns_apply, columns_apply]
  rw [show k0_pay7 (F := Ideal) (BitVec.ofNat 32 (grid0.coords t 1).val) = if t.val % 13 < 7 then Ideal.ofBits .f32 0x3E38AA3B#32 else 1 from by
    rw [coord_one]; exact scale_apply ⟨t.val % 13, by omega⟩]
  refine congrArg₂ (fun u v : EReal => u * v) ?_ rfl
  exact turned_lanes (rowOf t r) (fun d => projOf m c (seqOf t) (rowOf t r) ⟨512 * (t.val % 13) + (128 * q.val + d.val), by omega⟩) d

/-- The points where the first result's block is written back. -/
theorem flushed8 : ∀ t : Fin cfg0.N, (cfg0.win 8).flush t = true → t.val % 13 < 4 ∨ 10 ≤ t.val % 13 := by decide +kernel

theorem flushed9 : ∀ t : Fin cfg0.N, (cfg0.win 9).flush t = true → 5 ≤ t.val % 13 ∧ t.val % 13 < 10 ∨ t.val % 13 = 12 := by
  decide +kernel

theorem out8_rest (c : Dev nD) (t : Fin cfg0.N) (h : t.val % 13 < 5 ∨ 11 ≤ t.val % 13) (r : Fin 1024) (y : Fin 512) :
    out8 m c t (ix3 0 r y)
      = restOf m c (ix3 (seqOf t) (rowOf t r) ⟨512 * (if t.val % 13 < 5 then t.val % 13 else t.val % 13 - 6) + y.val, by split <;> omega⟩) := by
  rw [out8_apply]
  unfold restOf rest
  refine congrArg (projOf m c (seqOf t) (rowOf t r)) (Fin.ext ?_)
  show 512 * (t.val % 13) + y.val = Fin.val (ite (512 * (if t.val % 13 < 5 then t.val % 13 else t.val % 13 - 6) + y.val < 2560) _ _)
  by_cases hj : t.val % 13 < 5
  · rw [if_pos (by rw [if_pos hj]; omega)]
    show _ = 512 * (if t.val % 13 < 5 then t.val % 13 else t.val % 13 - 6) + y.val
    rw [if_pos hj]
  · rw [if_neg (by rw [if_neg hj]; omega)]
    show _ = 3072 + (512 * (if t.val % 13 < 5 then t.val % 13 else t.val % 13 - 6) + y.val)
    rw [if_neg hj]
    omega

theorem array8 (c : Dev nD) : (dats m 0 c).arrAt 8 cfg0.N = restOf m c := by
  refine (dats m 0 c).arrAt_eq_of_covers 8 _ (by decide +kernel) fun t hf y => ?_
  have hj := flushed8 t hf
  blk_simp
  rw [after_8]
  obtain ⟨a, r, y, rfl⟩ : ∃ (a : Fin 1) (r : Fin 1024) (z : Fin 512), y = ix3 a r z := ⟨y 0, y 1, y 2, eq_ix3 y⟩
  obtain rfl : a = 0 := Subsingleton.elim _ _
  have e8 : win0_8.index t = _ := (blocks_at t).2.2.2.2.2.2.2.2.1
  have hfrom : (from8 t).val = if 5 ≤ t.val % 13 ∧ t.val % 13 < 11 then 13 * (t.val / 13) + 4 else t.val := by
    unfold from8; split <;> rfl
  have hmod : (from8 t).val % 13 = if 5 ≤ t.val % 13 ∧ t.val % 13 < 11 then 4 else t.val % 13 := by
    rw [hfrom]; split <;> omega
  have hs : (seqOf (from8 t)).val = (from8 t).val / 26 := rfl
  have hr : (rowOf (from8 t) r).val = 1024 * ((from8 t).val / 13 % 2) + r.val := rfl
  rw [out8_rest m c (from8 t) (by rw [hmod]; split <;> omega)]
  refine congrArg (restOf m c) ?_
  blk_point [e8]
  · rw [hs, hfrom]; split <;> omega
  · rw [hr, hfrom]; split <;> omega
  · rw [hmod]
    by_cases h5 : 5 ≤ t.val % 13 ∧ t.val % 13 < 11
    · rw [if_pos h5, if_neg (by omega : ¬ t.val % 13 < 5), if_pos h5.2, if_pos (by omega : 4 < 5)]
    · rw [if_neg h5]
      by_cases h' : t.val % 13 < 5
      · rw [if_pos h', if_pos h']; omega
      · rw [if_neg h', if_neg h', if_neg (by omega)]; omega

theorem out9_heads (c : Dev nD) (t : Fin cfg0.N) (h : 5 ≤ t.val % 13) (h' : t.val % 13 < 11) (r : Fin 1024) (y : Fin 512) :
    out9 m c t (ix3 0 r y) = headsOf m c (ix3 (seqOf t) (rowOf t r) ⟨512 * (t.val % 13 - 5) + y.val, by omega⟩) := by
  by_cases hj : t.val % 13 < 9
  · obtain ⟨q, d, rfl⟩ : ∃ (q : Fin 4) (d : Fin 128), y = ⟨128 * q.val + d.val, by omega⟩ :=
      ⟨⟨y.val / 128, by omega⟩, ⟨y.val % 128, by omega⟩, Fin.ext (by show y.val = 128 * (y.val / 128) + y.val % 128; omega)⟩
    rw [out9_turned m c t hj]
    unfold headsOf heads
    refine Eq.trans ?_ (dif_pos (show 512 * (t.val % 13 - 5) + (128 * q.val + d.val) < 2048 by omega)).symm
    refine congrArg₂ (fun u v : EReal => u * v) ?_ ?_
    · refine congr (congrArg (turn (rowOf t r)) (funext fun e => congrArg (projOf m c (seqOf t) (rowOf t r)) (Fin.ext ?_))) (Fin.ext ?_)
      · show 512 * (t.val % 13) + (128 * q.val + (64 * (d.val / 64) + e.val))
          = 2560 + (64 * ((512 * (t.val % 13 - 5) + (128 * q.val + d.val)) / 64) + e.val)
        omega
      · show d.val % 64 = (512 * (t.val % 13 - 5) + (128 * q.val + d.val)) % 64
        omega
    · by_cases h7 : t.val % 13 < 7
      · rw [if_pos h7]
        exact (if_pos (show 512 * (t.val % 13 - 5) + (128 * q.val + d.val) < 1024 by omega)).symm
      · rw [if_neg h7]
        exact (if_neg (show ¬ 512 * (t.val % 13 - 5) + (128 * q.val + d.val) < 1024 by omega)).symm
  · rw [out9_values m c t (by omega)]
    unfold headsOf heads
    refine Eq.trans ?_ (dif_neg (show ¬ 512 * (t.val % 13 - 5) + y.val < 2048 by omega)).symm
    refine congrArg (projOf m c (seqOf t) (rowOf t r)) (Fin.ext ?_)
    show 512 * (t.val % 13) + y.val = 2560 + (512 * (t.val % 13 - 5) + y.val)
    omega

theorem array9 (c : Dev nD) : (dats m 0 c).arrAt 9 cfg0.N = headsOf m c := by
  refine (dats m 0 c).arrAt_eq_of_covers 9 _ (by decide +kernel) fun t hf y => ?_
  have hj := flushed9 t hf
  blk_simp
  rw [after_9]
  obtain ⟨a, r, y, rfl⟩ : ∃ (a : Fin 1) (r : Fin 1024) (z : Fin 512), y = ix3 a r z := ⟨y 0, y 1, y 2, eq_ix3 y⟩
  obtain rfl : a = 0 := Subsingleton.elim _ _
  have e9 : win0_9.index t = _ := (blocks_at t).2.2.2.2.2.2.2.2.2
  have hfrom : (from9 t).val = if 11 ≤ t.val % 13 then 13 * (t.val / 13) + 10 else t.val := by
    unfold from9; split <;> rfl
  have hmod : (from9 t).val % 13 = if 11 ≤ t.val % 13 then 10 else t.val % 13 := by
    rw [hfrom]; split <;> omega
  have hs : (seqOf (from9 t)).val = (from9 t).val / 26 := rfl
  have hr : (rowOf (from9 t) r).val = 1024 * ((from9 t).val / 13 % 2) + r.val := rfl
  rw [out9_heads m c (from9 t) (by rw [hmod]; split <;> omega) (by rw [hmod]; split <;> omega)]
  refine congrArg (headsOf m c) ?_
  blk_point [e9]
  · rw [hs, hfrom]; split <;> omega
  · rw [hr, hfrom]; split <;> omega
  · rw [hmod, if_neg (by omega : ¬ t.val % 13 < 5)]
    by_cases h11 : 11 ≤ t.val % 13
    · rw [if_pos h11, if_neg (by omega)]
    · rw [if_neg h11, if_pos (by omega)]; omega

/-- The run, with the two results named. -/
theorem run_results (ρ : Dev nD → PrngReg) : θ_run defs (onTc (τ := τ) (main (F := Ideal))) ⟨m, fun _ => 0, ρ⟩ fun r => ∀ c : Dev nD,
      r.2.mem ((c : Thread nD τ).loc main_v31_0) = restOf m c
      ∧ r.2.mem ((c : Thread nD τ).loc main_v31_1) = headsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1.1 c).1 8).trans (array8 m c), ((h.1.1 c).1 9).trans (array9 m c), h.2.1 c⟩)
    (θ_run_and (run_main m ρ) (frame m ρ))

end Cert.Kernel5Ideal.In

end
-- ==== Proof.SecondInReference.lean ====
/- The input projection's reference, element by element, in the words of `InMath`.
   This is the second layer's call; the first layer's is read the same way in `InReference`. -/
module

public import proofs.«01_k».proof.Proof.Gen.Reference5Ideal.Read
public import proofs.«01_k».proof.Proof.InMath

@[expose] public section

noncomputable section

namespace Cert.Reference5Ideal.In

open Cert.Reference5Ideal Cert.Reference5Ideal.Gen Idealize.ShloMosaic Idealize.ShloMosaic.TcCoe Idealize.SL.Sem
open Cert.Reference5Ideal.Read
open Cert.In

variable (x0 : Vec Ideal S20x2048x2048 .f32) (x1 : Vec Ideal S2048 .f32) (x2 x3 : Vec Ideal S20x1x2048 .f32)
  (x4 : Vec Ideal S2x2048x6656 .bf16)

theorem hidden_apply (b : Fin 20) (l k : Fin 2048) :
    val_main_v18 (F := Ideal) x0 x1 x2 x3 (ix3 b l k) = Cert.In.hidden x0 x1 x2 x3 b l k := by
  unfold Cert.In.hidden
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2]

theorem proj_apply (b : Fin 20) (l : Fin 2048) (c : Fin 6656) :
    val_main_v22 (F := Ideal) x0 x1 x2 x3 x4 (ix3 b l c) = proj x0 x1 x2 x3 x4 1 b l c := by
  unfold proj
  simp only [← hidden_apply]
  unfold val_main_v22
  generalize val_main_v18 (F := Ideal) x0 x1 x2 x3 = y
  pointwise [val_main_v21, val_main_v20, val_main_v19]

theorem angle_apply (l : Fin 2048) (k : Fin 8) : val_main_v36 (F := Ideal) (ix2 l k) = angle l k := by
  unfold angle
  pointwise [val_main_v36, val_main_v35, val_main_v34, val_main_v33, val_main_v32, val_main_v31, val_main_v30,
    val_main_v29, val_main_v28, val_main_v27, val_main_v26, val_main_v25, val_main_cst_3, val_main_cst_4]

theorem angle_again_apply (l : Fin 2048) (k : Fin 8) : val_main_v69 (F := Ideal) (ix2 l k) = angle l k := by
  unfold angle
  pointwise [val_main_v69, val_main_v68, val_main_v67, val_main_v66, val_main_v65, val_main_v64, val_main_v63,
    val_main_v62, val_main_v61, val_main_v60, val_main_v59, val_main_v58, val_main_cst_5, val_main_cst_6]

/-- The queries, a half head's first sixteen lanes turned. -/
theorem queries_apply (b : Fin 20) (l : Fin 2048) (f : Fin 1024) :
    val_main_v55 (F := Ideal) x0 x1 x2 x3 x4 (ix3 b l f)
      = turn l (fun e => proj x0 x1 x2 x3 x4 1 b l ⟨2560 + (64 * (f.val / 64) + e.val), by omega⟩) ⟨f.val % 64, by omega⟩ := by
  unfold turn
  simp only [← proj_apply x0 x1 x2 x3 x4 b l, ← angle_apply l]
  unfold val_main_v55 val_main_v54 val_main_v53 val_main_v52 val_main_v51 val_main_v49 val_main_v47 val_main_v46 val_main_v44
    val_main_v50 val_main_v48 val_main_v45 val_main_v43 val_main_v42 val_main_v41 val_main_v40 val_main_v39 val_main_v38 val_main_v37 val_main_v24 val_main_v23
  generalize val_main_v22 (F := Ideal) x0 x1 x2 x3 x4 = y
  generalize val_main_v36 (F := Ideal) = z
  pointwise []
  by_cases h : f.val % 64 < 8
  · simp only [h, ↓reduceDIte]
    have e : 2560 + f.val = 2560 + (64 * (f.val / 64) + f.val % 64) := by omega
    have e' : 2560 + (f.val / 128 * 128 + f.val / 64 % 2 * 64 + (8 + f.val % 64)) = 2560 + (64 * (f.val / 64) + (8 + f.val % 64)) := by omega
    simp only [e, e']
  · by_cases h' : f.val % 64 < 16
    · have h2 : f.val % 64 - 8 < 8 := by omega
      simp only [h, h', h2, ↓reduceDIte]
      have e : 2560 + (f.val / 128 * 128 + f.val / 64 % 2 * 64 + (8 + (f.val % 64 - 8))) = 2560 + (64 * (f.val / 64) + f.val % 64) := by omega
      have e' : 2560 + (f.val / 128 * 128 + f.val / 64 % 2 * 64 + (f.val % 64 - 8)) = 2560 + (64 * (f.val / 64) + (f.val % 64 - 8)) := by omega
      simp only [e, e']
    · have h2 : ¬ f.val % 64 - 8 < 8 := by omega
      simp only [h, h', h2, ↓reduceDIte]
      have e : 2560 + (f.val / 128 * 128 + f.val / 64 % 2 * 64 + (16 + (f.val % 64 - 8 - 8))) = 2560 + (64 * (f.val / 64) + f.val % 64) := by omega
      simp only [e]

/-- The keys, likewise. -/
theorem keys_apply (b : Fin 20) (l : Fin 2048) (f : Fin 1024) :
    val_main_v88 (F := Ideal) x0 x1 x2 x3 x4 (ix3 b l f)
      = turn l (fun e => proj x0 x1 x2 x3 x4 1 b l ⟨3584 + (64 * (f.val / 64) + e.val), by omega⟩) ⟨f.val % 64, by omega⟩ := by
  unfold turn
  simp only [← proj_apply x0 x1 x2 x3 x4 b l, ← angle_again_apply l]
  unfold val_main_v88 val_main_v87 val_main_v86 val_main_v85 val_main_v84 val_main_v82 val_main_v80 val_main_v79 val_main_v77
    val_main_v83 val_main_v81 val_main_v78 val_main_v76 val_main_v75 val_main_v74 val_main_v73 val_main_v72 val_main_v71 val_main_v70 val_main_v57 val_main_v56
  generalize val_main_v22 (F := Ideal) x0 x1 x2 x3 x4 = y
  generalize val_main_v69 (F := Ideal) = z
  pointwise []
  by_cases h : f.val % 64 < 8
  · simp only [h, ↓reduceDIte]
    have e : 3584 + f.val = 3584 + (64 * (f.val / 64) + f.val % 64) := by omega
    have e' : 3584 + (f.val / 128 * 128 + f.val / 64 % 2 * 64 + (8 + f.val % 64)) = 3584 + (64 * (f.val / 64) + (8 + f.val % 64)) := by omega
    simp only [e, e']
  · by_cases h' : f.val % 64 < 16
    · have h2 : f.val % 64 - 8 < 8 := by omega
      simp only [h, h', h2, ↓reduceDIte]
      have e : 3584 + (f.val / 128 * 128 + f.val / 64 % 2 * 64 + (8 + (f.val % 64 - 8))) = 3584 + (64 * (f.val / 64) + f.val % 64) := by omega
      have e' : 3584 + (f.val / 128 * 128 + f.val / 64 % 2 * 64 + (f.val % 64 - 8)) = 3584 + (64 * (f.val / 64) + (f.val % 64 - 8)) := by omega
      simp only [e, e']
    · have h2 : ¬ f.val % 64 - 8 < 8 := by omega
      simp only [h, h', h2, ↓reduceDIte]
      have e : 3584 + (f.val / 128 * 128 + f.val / 64 % 2 * 64 + (16 + (f.val % 64 - 8 - 8))) = 3584 + (64 * (f.val / 64) + f.val % 64) := by omega
      simp only [e]

theorem rest_eq : val_main_v94 (F := Ideal) x0 x1 x2 x3 x4 = rest x0 x1 x2 x3 x4 1 := by
  funext i
  obtain ⟨b, l, f, rfl⟩ : ∃ (b : Fin 20) (l : Fin 2048) (f : Fin 3584), i = ix3 b l f := ⟨i 0, i 1, i 2, eq_ix3 i⟩
  show _ = proj x0 x1 x2 x3 x4 1 b l (if f.val < 2560 then ⟨f.val, by omega⟩ else ⟨3072 + f.val, by omega⟩)
  rw [← proj_apply]
  unfold val_main_v94 val_main_v92 val_main_v93
  generalize val_main_v22 (F := Ideal) x0 x1 x2 x3 x4 = y
  pointwise []
  by_cases h : f.val < 2560
  · rw [dif_pos h, if_pos h]
  · rw [dif_neg h, if_neg h]
    exact congrArg (fun c : Fin 6656 => y (ix3 b l c)) (Fin.ext (by show 5632 + (f.val - 2560) = 3072 + f.val; omega))

theorem heads_eq : val_main_v96 (F := Ideal) x0 x1 x2 x3 x4 = heads x0 x1 x2 x3 x4 1 := by
  funext i
  obtain ⟨b, l, f, rfl⟩ : ∃ (b : Fin 20) (l : Fin 2048) (f : Fin 3072), i = ix3 b l f := ⟨i 0, i 1, i 2, eq_ix3 i⟩
  have hq := queries_apply x0 x1 x2 x3 x4 b l
  have hk := keys_apply x0 x1 x2 x3 x4 b l
  have hv := proj_apply x0 x1 x2 x3 x4 b l
  show _ = if h : f.val < 2048 then
      turn l (fun e => proj x0 x1 x2 x3 x4 1 b l ⟨2560 + (64 * (f.val / 64) + e.val), by omega⟩) ⟨f.val % 64, by omega⟩
        * (if f.val < 1024 then Ideal.ofBits .f32 0x3E38AA3B#32 else 1)
    else proj x0 x1 x2 x3 x4 1 b l ⟨2560 + f.val, by omega⟩
  unfold val_main_v96 val_main_v95 val_main_v91 val_main_v89
  generalize val_main_v22 (F := Ideal) x0 x1 x2 x3 x4 = y at hv ⊢
  generalize val_main_v55 (F := Ideal) x0 x1 x2 x3 x4 = q at hq ⊢
  generalize val_main_v88 (F := Ideal) x0 x1 x2 x3 x4 = k at hk ⊢
  pointwise [val_main_v90, val_main_cst_7]
  by_cases h : f.val < 1024
  · rw [dif_pos h, dif_pos (by omega), if_pos h, hq]
  · rw [dif_neg h]
    by_cases h' : f.val < 2048
    · rw [dif_pos (by omega), dif_pos h', if_neg h, mul_one, hk]
      have half : ∀ {p p' : Fin 64 → EReal} {d d' : Fin 64}, p = p' → d = d' → turn l p d = turn l p' d' :=
        fun e e' => by rw [e, e']
      exact half (funext fun e => congrArg (proj x0 x1 x2 x3 x4 1 b l) (Fin.ext (by
          show 3584 + (64 * ((f.val - 1024) / 64) + e.val) = 2560 + (64 * (f.val / 64) + e.val); omega)))
        (Fin.ext (by show (f.val - 1024) % 64 = f.val % 64; omega))
    · rw [dif_neg (by omega), dif_neg h', hv]
      exact congrArg (proj x0 x1 x2 x3 x4 1 b l) (Fin.ext (by show 4608 + (f.val - 1024 - 1024) = 2560 + f.val; omega))

end Cert.Reference5Ideal.In

end
-- ==== Proof.SecondOutArray.lean ====
/- The output projection's three results, element by element, as functions of its arguments.
   This is the second layer's call; the first layer's is read the same way in `OutArray`. What a grid point makes of its
   blocks is the same for both, so `OutBlock` is read here too. -/
module

public import proofs.«01_k».proof.Proof.Gen.Kernel6Ideal.Value
public import proofs.«01_k».proof.Proof.OutBlock

@[expose] public section

noncomputable section

namespace Cert.Kernel6Ideal.Out

open Cert.Kernel6Ideal Cert.Kernel6Ideal.Gen Idealize.ShloMosaic Idealize.ShloMosaic.TcCoe Idealize.SL.Sem
open Idealize.ShloMosaic.Pipeline (Dat)
open Cert.Out
open Cert.Kernel3Ideal.Out (tokenOf out_apply hidden_apply prob_apply stored_out stored_hidden stored_prob)

variable (m : (ℓ : Loc nD τ sig) → Buf (Elt Ideal) ℓ)

theorem blocks_at : ∀ t : Fin cfg0.N,
    win0_0.index t = ![t.val, 0] ∧ win0_1.index t = ![t.val, 0] ∧ win0_2.index t = ![t.val, 0] ∧ win0_3.index t = ![t.val, 0]
      ∧ win0_4.index t = ![t.val / 4, 0, 0] ∧ win0_5.index t = ![0, 0] ∧ win0_6.index t = ![1, 0, 0]
      ∧ win0_7.index t = ![0, 0] ∧ win0_8.index t = ![0, 0] ∧ win0_9.index t = ![t.val / 4, 0, 0]
      ∧ win0_10.index t = ![t.val / 4, 0, 0] ∧ win0_11.index t = ![0, 0] ∧ win0_12.index t = ![t.val, 0]
      ∧ win0_13.index t = ![t.val, 0] ∧ win0_14.index t = ![0, t.val] := by
  decide +kernel

/-- The tokens of the argument arrays as launched. -/
def tokens (c : Dev nD) : Fin 40960 → Token :=
  tokenAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) 1

theorem lt_80 (t : Fin cfg0.N) : t.val < 80 := t.isLt

/-- Row `r` of point `t`'s blocks is a token of the arguments. -/
def place (t : Fin cfg0.N) (r : Fin 512) : Fin 40960 := ⟨512 * t.val + r.val, by have := lt_80 t; omega⟩

theorem token_at (c : Dev nD) (t : Fin cfg0.N) (r : Fin 512) :
    tokenOf (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) r
      = tokens m c (place t r) := by
  obtain ⟨e0, e1, e2, e3, e4, e5, e6, e7, e8, e9, e10, e11, -⟩ := blocks_at t
  have ht := lt_80 t
  have hp : (place t r).val = 512 * t.val + r.val := rfl
  unfold tokenOf tokens tokenAt
  congr 1
  · funext k; blk_point [iblk, V, e0]
  · funext k; blk_point [iblk, V, e1]
  · funext k; blk_point [iblk, V, e2]
  · funext k; blk_point [iblk, V, e3]
  · funext k; blk_point [iblk, V, e4]
  · funext k; blk_point [iblk, V, e5]
  · funext n k; blk_point [iblk, V, e6]
  · funext k; blk_point [iblk, V, e7]
  · funext k; blk_point [iblk, V, e8]
  · funext k; blk_point [iblk, V, e9]
  · funext k; blk_point [iblk, V, e10]
  · funext e k; blk_point [iblk, V, e11]

/-! A point stores what the first layer's point stores of the same blocks. -/

theorem same_out : @out0_12 = @Cert.Kernel3Ideal.Gen.out0_12 := rfl
theorem same_hidden : @out0_13 = @Cert.Kernel3Ideal.Gen.out0_13 := rfl
theorem same_prob : @out0_14 = @Cert.Kernel3Ideal.Gen.out0_14 := rfl

theorem outs_apply (c : Dev nD) (t : Fin cfg0.N) (r : Fin 512) (k : Fin 2048) :
    (dats m 0 c).after 12 t (ix2 r k) = (tokens m c (place t r)).out k := by
  rw [← token_at, ← out_apply, after0_12, same_out, stored_out]

theorem hiddens_apply (c : Dev nD) (t : Fin cfg0.N) (r : Fin 512) (k : Fin 2048) :
    (dats m 0 c).after 13 t (ix2 r k) = (tokens m c (place t r)).hidden k := by
  rw [← token_at, ← hidden_apply, after0_13, same_hidden, stored_hidden]
  rfl

theorem probs_apply (c : Dev nD) (t : Fin cfg0.N) (e : Fin 16) (r : Fin 512) :
    (dats m 0 c).after 14 t (ix2 e r) = (tokens m c (place t r)).prob e := by
  rw [← token_at, ← prob_apply, after0_14, same_prob, stored_prob]

theorem outs_array (c : Dev nD) : (dats m 0 c).arrAt 12 (cfgs 0).N = outs (tokens m c) := by
  refine (dats m 0 c).arrAt_eq_of_covers 12 _ (by decide +kernel) fun t hf y => ?_
  blk_simp
  obtain ⟨r, k, rfl⟩ : ∃ (r : Fin 512) (k : Fin 2048), y = ix2 r k := ⟨y 0, y 1, eq_ix2 y⟩
  rw [outs_apply]
  obtain ⟨-, -, -, -, -, -, -, -, -, -, -, -, e12, -, -⟩ := blocks_at t
  change outs (tokens m c) (ix2 (place t r) k) = _
  have hp : (place t r).val = 512 * t.val + r.val := rfl
  generalize outs (tokens m c) = z
  blk_point [e12]

theorem hiddens_array (c : Dev nD) : (dats m 0 c).arrAt 13 (cfgs 0).N = hiddens (tokens m c) := by
  refine (dats m 0 c).arrAt_eq_of_covers 13 _ (by decide +kernel) fun t hf y => ?_
  blk_simp
  obtain ⟨r, k, rfl⟩ : ∃ (r : Fin 512) (k : Fin 2048), y = ix2 r k := ⟨y 0, y 1, eq_ix2 y⟩
  rw [hiddens_apply]
  obtain ⟨-, -, -, -, -, -, -, -, -, -, -, -, -, e13, -⟩ := blocks_at t
  change hiddens (tokens m c) (ix2 (place t r) k) = _
  have hp : (place t r).val = 512 * t.val + r.val := rfl
  generalize hiddens (tokens m c) = z
  blk_point [e13]

theorem probs_array (c : Dev nD) : (dats m 0 c).arrAt 14 (cfgs 0).N = probs (tokens m c) := by
  refine (dats m 0 c).arrAt_eq_of_covers 14 _ (by decide +kernel) fun t hf y => ?_
  blk_simp
  obtain ⟨e, r, rfl⟩ : ∃ (e : Fin 16) (r : Fin 512), y = ix2 e r := ⟨y 0, y 1, eq_ix2 y⟩
  rw [probs_apply]
  obtain ⟨-, -, -, -, -, -, -, -, -, -, -, -, -, -, e14⟩ := blocks_at t
  change probs (tokens m c) (ix2 e (place t r)) = _
  have hp : (place t r).val = 512 * t.val + r.val := rfl
  generalize probs (tokens m c) = z
  blk_point [e14]

end Cert.Kernel6Ideal.Out

end
-- ==== Proof.SecondOutReference.lean ====
/- The output projection's reference, element by element, in the words of `OutMath`.
   This is the second layer's call; the first layer's is read the same way in `OutReference`. -/
module

public import proofs.«01_k».proof.Proof.Gen.Reference6Ideal.Read
public import proofs.«01_k».proof.Proof.Block
public import proofs.«01_k».proof.Proof.OutMath

@[expose] public section

noncomputable section

namespace Cert.Reference6Ideal.Out

open Cert.Reference6Ideal Cert.Reference6Ideal.Gen Idealize.ShloMosaic Idealize.ShloMosaic.TcCoe Idealize.SL.Sem
open Cert.Reference6Ideal.Read
open Cert.Out

variable (x0 : Vec Ideal S40960x512 .bf16) (x1 : Vec Ideal S40960x1024 .bf16) (x2 : Vec Ideal S40960x512 .f32)
  (x3 : Vec Ideal S40960x2048 .f32) (x4 : Vec Ideal S20x1x2048 .f32) (x5 : Vec Ideal S512 .f32)
  (x6 : Vec Ideal S2x2048x2048 .bf16) (x7 x8 : Vec Ideal S2048 .f32) (x9 x10 : Vec Ideal S20x1x2048 .f32)
  (x11 : Vec Ideal S16x2048 .f32)

theorem sides_apply (i : Fin 40960) (k : Fin 2048) :
    val_main_v15 (F := Ideal) x0 x1 x2 x5 (ix2 i k) = (tokenAt x0 x1 x2 x3 x4 x5 x6 x7 x8 x9 x10 x11 1 i).mixed k := by
  unfold Token.mixed unit tokenAt
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  by_cases h : k.val < 512
  · simp only [h, ↓reduceDIte]
  · by_cases h' : k.val < 1536
    · have h2 : k.val - 512 < 1024 := by omega
      simp only [h, h', h2, ↓reduceDIte]
    · have h2 : ¬ k.val - 512 < 1024 := by omega
      have e : k.val - 512 - 1024 = k.val - 1536 := by omega
      simp only [h, h', h2, e, ↓reduceDIte]

theorem projected_apply (i : Fin 40960) (k : Fin 2048) :
    val_main_v19 (F := Ideal) x0 x1 x2 x5 x6 (ix2 i k) = (tokenAt x0 x1 x2 x3 x4 x5 x6 x7 x8 x9 x10 x11 1 i).projected k := by
  unfold Token.projected
  simp only [← sides_apply]
  unfold val_main_v19
  generalize val_main_v15 (F := Ideal) x0 x1 x2 x5 = y
  pointwise [val_main_v18, val_main_v17, val_main_v16]
  rfl

theorem out_apply (i : Fin 40960) (k : Fin 2048) :
    val_main_v71 (F := Ideal) x0 x1 x2 x3 x4 x5 x6 x7 (ix2 i k)
      = (tokenAt x0 x1 x2 x3 x4 x5 x6 x7 x8 x9 x10 x11 1 i).out k := by
  have hp := projected_apply x0 x1 x2 x3 x4 x5 x6 x7 x8 x9 x10 x11 i
  unfold Token.out unit
  simp only [← hp]
  unfold val_main_v71 val_main_v37 val_main_v36 val_main_v34 val_main_v33 val_main_v30 val_main_v29 val_main_v28
    val_main_v27 val_main_v25 val_main_v23 val_main_v22 val_main_v21
  generalize val_main_v19 (F := Ideal) x0 x1 x2 x5 x6 = y
  pointwise [val_main_v35, val_main_v32, val_main_v31, val_main_v26, val_main_v24, val_main_v20, val_main_cst_2,
    val_main_cst_3, val_main_cst_4]
  unfold tokenAt
  have e : i.val / 2048 * 2048 + i.val % 2048 = i.val := by omega
  simp only [e]

theorem hidden_apply (i : Fin 40960) (k : Fin 2048) :
    val_main_v57 (F := Ideal) x0 x1 x2 x3 x4 x5 x6 x7 x8 x9 x10 (ix2 i k)
      = (tokenAt x0 x1 x2 x3 x4 x5 x6 x7 x8 x9 x10 x11 1 i).hidden k := by
  have ho := out_apply x0 x1 x2 x3 x4 x5 x6 x7 x8 x9 x10 x11 i
  unfold Token.hidden unit
  simp only [← ho]
  unfold val_main_v57 val_main_v56 val_main_v54 val_main_v50 val_main_v47 val_main_v46 val_main_v45 val_main_v44 val_main_v42
    val_main_v40 val_main_v39 val_main_v38 val_main_v71
  generalize val_main_v37 (F := Ideal) x0 x1 x2 x3 x4 x5 x6 x7 = y
  pointwise [val_main_v55, val_main_v53, val_main_v52, val_main_v51, val_main_v49, val_main_v48, val_main_v43,
    val_main_v41, val_main_cst_5, val_main_cst_6, val_main_cst_7, val_main_cst_8]
  rfl

theorem logit_apply (i : Fin 40960) (e : Fin 16) :
    val_main_v59 (F := Ideal) x0 x1 x2 x3 x4 x5 x6 x7 x8 x9 x10 x11 (ix2 i e)
      = (tokenAt x0 x1 x2 x3 x4 x5 x6 x7 x8 x9 x10 x11 1 i).logit e := by
  have hh := hidden_apply x0 x1 x2 x3 x4 x5 x6 x7 x8 x9 x10 x11 i
  unfold Token.logit
  simp only [← hh]
  unfold val_main_v59
  generalize val_main_v57 (F := Ideal) x0 x1 x2 x3 x4 x5 x6 x7 x8 x9 x10 = y
  pointwise [val_main_v58]
  exact Finset.sum_congr rfl fun k _ => mul_comm _ _

theorem greatest_apply (i : Fin 40960) :
    val_main_v62 (F := Ideal) x0 x1 x2 x3 x4 x5 x6 x7 x8 x9 x10 x11 (ix1 i)
      = Attn.rowMax (tokenAt x0 x1 x2 x3 x4 x5 x6 x7 x8 x9 x10 x11 1 i).logit := by
  have hl := logit_apply x0 x1 x2 x3 x4 x5 x6 x7 x8 x9 x10 x11 i
  unfold val_main_v62 val_main_v60
  generalize val_main_v59 (F := Ideal) x0 x1 x2 x3 x4 x5 x6 x7 x8 x9 x10 x11 = y at hl ⊢
  pointwise [val_main_v61, val_main_cst_9, val_main_cst_10]
  simp only [hl, Attn.neg_inf]
  unfold Attn.rowMax
  exact max_eq_right bot_le

theorem prob_apply (i : Fin 40960) (e : Fin 16) :
    val_main_v73 (F := Ideal) x0 x1 x2 x3 x4 x5 x6 x7 x8 x9 x10 x11 (ix2 e i)
      = (tokenAt x0 x1 x2 x3 x4 x5 x6 x7 x8 x9 x10 x11 1 i).prob e := by
  have hl := logit_apply x0 x1 x2 x3 x4 x5 x6 x7 x8 x9 x10 x11 i
  have hm := greatest_apply x0 x1 x2 x3 x4 x5 x6 x7 x8 x9 x10 x11 i
  unfold val_main_v73 val_main_v70 val_main_v69 val_main_v68 val_main_v67 val_main_v66 val_main_v65 val_main_v64 val_main_v63
  generalize val_main_v59 (F := Ideal) x0 x1 x2 x3 x4 x5 x6 x7 x8 x9 x10 x11 = y at hl ⊢
  generalize val_main_v62 (F := Ideal) x0 x1 x2 x3 x4 x5 x6 x7 x8 x9 x10 x11 = z at hm ⊢
  pointwise [val_main_cst_11]
  simp only [hl, hm]
  rfl

theorem outs_eq : val_main_v71 (F := Ideal) x0 x1 x2 x3 x4 x5 x6 x7 = outs (tokenAt x0 x1 x2 x3 x4 x5 x6 x7 x8 x9 x10 x11 1) := by
  funext i
  obtain ⟨n, k, rfl⟩ : ∃ (n : Fin 40960) (k : Fin 2048), i = ix2 n k := ⟨i 0, i 1, eq_ix2 i⟩
  exact out_apply x0 x1 x2 x3 x4 x5 x6 x7 x8 x9 x10 x11 n k

theorem hiddens_eq : val_main_v72 (F := Ideal) x0 x1 x2 x3 x4 x5 x6 x7 x8 x9 x10
    = hiddens (tokenAt x0 x1 x2 x3 x4 x5 x6 x7 x8 x9 x10 x11 1) := by
  funext i
  obtain ⟨n, k, rfl⟩ : ∃ (n : Fin 40960) (k : Fin 2048), i = ix2 n k := ⟨i 0, i 1, eq_ix2 i⟩
  exact hidden_apply x0 x1 x2 x3 x4 x5 x6 x7 x8 x9 x10 x11 n k

theorem probs_eq : val_main_v73 (F := Ideal) x0 x1 x2 x3 x4 x5 x6 x7 x8 x9 x10 x11
    = probs (tokenAt x0 x1 x2 x3 x4 x5 x6 x7 x8 x9 x10 x11 1) := by
  funext i
  obtain ⟨e, n, rfl⟩ : ∃ (e : Fin 16) (n : Fin 40960), i = ix2 e n := ⟨i 0, i 1, eq_ix2 i⟩
  exact prob_apply x0 x1 x2 x3 x4 x5 x6 x7 x8 x9 x10 x11 n e

end Cert.Reference6Ideal.Out

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2.Loops
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Loops
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5.Loops
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Loops
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Same
public import proofs.«01_k».proof.Proof.InArray
public import proofs.«01_k».proof.Proof.InFrameBits
public import proofs.«01_k».proof.Proof.InReference
public import proofs.«01_k».proof.Proof.OutArray
public import proofs.«01_k».proof.Proof.OutReference
public import proofs.«01_k».proof.Proof.CondReference
public import proofs.«01_k».proof.Proof.Casts
public import proofs.«01_k».proof.Proof.SecondInArray
public import proofs.«01_k».proof.Proof.SecondInFrameBits
public import proofs.«01_k».proof.Proof.SecondInReference
public import proofs.«01_k».proof.Proof.SecondOutArray
public import proofs.«01_k».proof.Proof.SecondOutReference
public import Idealize.ShloMosaic.Adequacy
public import Idealize.ShloMosaic.Init

@[expose] public section

noncomputable section

namespace Cert.Proof

open Idealize.ShloMosaic Idealize.SL.Sem Cert.Kernel

/-- The reference changes no argument; it has no semaphore. -/
theorem reference_frame : Cert.quiescent_ReferenceIdeal (hReferenceIdeal := Cert.ReferenceIdeal.Gen.facts) := fun m g _ =>
  θ_run_mono (Cert.ReferenceIdeal.Value.run m g) fun r hr =>
    And.intro (fun c => (hr c).2) (sem_eq_zero_of_no_sems (by decide) r.2)

theorem algebraic_attn [Cert.Pre_finite_inputs.Facts] :
    Cert.algebraic_KernelIdeal_ReferenceIdeal_pre_finite_inputs (hKernelIdeal := Cert.KernelIdeal.Gen.facts)
      (hReferenceIdeal := Cert.ReferenceIdeal.Gen.facts) := by
  intro m g m' g' hpre hagree
  refine ⟨fun c => (Cert.KernelIdeal.Gen.dats m 0 c).arrAt 5 (Cert.KernelIdeal.cfgs 0).N,
    Cert.KernelIdeal.Value.run_blocks m g, ?_⟩
  refine θ_run_mono (Cert.ReferenceIdeal.Value.run m' g') fun r hr c => ⟨(hr c).1.trans ?_, (hr c).2⟩
  have hp := Cert.Pre_finite_inputs.Attn.reals _ _ _ (hpre c)
  rw [Cert.ReferenceIdeal.Read.val_main_v51_eq, (hagree c).1, (hagree c).2.1, (hagree c).2.2]
  refine ((Cert.KernelIdeal.Attn.array m c).trans ?_).symm
  exact Cert.Attn.result_eq _ _ _ hp.1 hp.2

theorem reference2_frame : Cert.quiescent_Reference2Ideal (hReference2Ideal := Cert.Reference2Ideal.Gen.facts) := fun m g _ =>
  θ_run_mono (Cert.Reference2Ideal.Value.run m g) fun r hr =>
    And.intro (fun c => (hr c).2.2) (sem_eq_zero_of_no_sems (by decide) r.2)

theorem algebraic_in : Cert.algebraic_Kernel2Ideal_Reference2Ideal (hKernel2Ideal := Cert.Kernel2Ideal.Gen.facts)
    (hReference2Ideal := Cert.Reference2Ideal.Gen.facts) := by
  intro m g m' g' _ hagree
  refine ⟨Cert.Kernel2Ideal.In.restOf m, Cert.Kernel2Ideal.In.headsOf m, Cert.Kernel2Ideal.In.run_results m g, ?_⟩
  refine θ_run_mono (Cert.Reference2Ideal.Value.run m' g') fun r hr c =>
    ⟨(hr c).1.trans ?_, (hr c).2.1.trans ?_, (hr c).2.2⟩ <;> obtain ⟨h0, h1, h2, h3, h4⟩ := hagree c
  · rw [Cert.Reference2Ideal.Read.val_main_v94_eq, h0, h1, h2, h3, h4]
    exact Cert.Reference2Ideal.In.rest_eq _ _ _ _ _
  · rw [Cert.Reference2Ideal.Read.val_main_v96_eq, h0, h1, h2, h3, h4]
    exact Cert.Reference2Ideal.In.heads_eq _ _ _ _ _

theorem reference3_frame : Cert.quiescent_Reference3Ideal (hReference3Ideal := Cert.Reference3Ideal.Gen.facts) := fun m g _ =>
  θ_run_mono (Cert.Reference3Ideal.Value.run m g) fun r hr =>
    And.intro (fun c => (hr c).2.2.2) (sem_eq_zero_of_no_sems (by decide) r.2)

theorem algebraic_out : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 12 (Cert.Kernel3Ideal.cfgs 0).N,
    fun c => (Cert.Kernel3Ideal.Gen.dats m 0 c).arrAt 13 (Cert.Kernel3Ideal.cfgs 0).N,
    fun c => (Cert.Kernel3Ideal.Gen.dats m 0 c).arrAt 14 (Cert.Kernel3Ideal.cfgs 0).N,
    Cert.Kernel3Ideal.Value.run_blocks m g, ?_⟩
  refine θ_run_mono (Cert.Reference3Ideal.Value.run m' g') fun r hr c =>
    ⟨(hr c).1.trans ?_, (hr c).2.1.trans ?_, (hr c).2.2.1.trans ?_, (hr c).2.2.2⟩ <;>
    obtain ⟨h0, h1, h2, h3, h4, h5, h6, h7, h8, h9, h10, h11⟩ := hagree c
  · rw [Cert.Reference3Ideal.Read.val_main_v71_eq, h0, h1, h2, h3, h4, h5, h6, h7]
    refine Eq.trans ?_ (Cert.Kernel3Ideal.Out.outs_array m c).symm
    exact Cert.Reference3Ideal.Out.outs_eq _ _ _ _ _ _ _ _ _ _ _ _
  · rw [Cert.Reference3Ideal.Read.val_main_v72_eq, h0, h1, h2, h3, h4, h5, h6, h7, h8, h9, h10]
    refine Eq.trans ?_ (Cert.Kernel3Ideal.Out.hiddens_array m c).symm
    exact Cert.Reference3Ideal.Out.hiddens_eq _ _ _ _ _ _ _ _ _ _ _ _
  · rw [Cert.Reference3Ideal.Read.val_main_v73_eq, h0, h1, h2, h3, h4, h5, h6, h7, h8, h9, h10, h11]
    refine Eq.trans ?_ (Cert.Kernel3Ideal.Out.probs_array m c).symm
    exact Cert.Reference3Ideal.Out.probs_eq _ _ _ _ _ _ _ _ _ _ _ _

theorem reference4_frame : Cert.quiescent_Reference4Ideal (hReference4Ideal := Cert.Reference4Ideal.Gen.facts) := fun m g _ =>
  θ_run_mono (Cert.Reference4Ideal.Value.run m g) fun r hr =>
    And.intro (fun c => (hr c).2) (sem_eq_zero_of_no_sems (by decide) r.2)

theorem algebraic_cond : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 3 (Cert.Kernel4Ideal.cfgs 0).N,
    Cert.Kernel4Ideal.Value.run_blocks m g, ?_⟩
  refine θ_run_mono (Cert.Reference4Ideal.Value.run m' g') fun r hr c => ⟨(hr c).1.trans ?_, (hr c).2⟩
  obtain ⟨h0, h1, h2⟩ := hagree c
  rw [Cert.Reference4Ideal.Read.val_main_v20_eq, h0, h1, h2]
  exact (Cert.Reference4Ideal.Cond.conds_eq _ _ _).trans (Cert.Kernel4Ideal.Cond.array m c).symm

theorem reference5_frame : Cert.quiescent_Reference5Ideal (hReference5Ideal := Cert.Reference5Ideal.Gen.facts) := fun m g _ =>
  θ_run_mono (Cert.Reference5Ideal.Value.run m g) fun r hr =>
    And.intro (fun c => (hr c).2.2) (sem_eq_zero_of_no_sems (by decide) r.2)

theorem algebraic_second_in : Cert.algebraic_Kernel5Ideal_Reference5Ideal (hKernel5Ideal := Cert.Kernel5Ideal.Gen.facts)
    (hReference5Ideal := Cert.Reference5Ideal.Gen.facts) := by
  intro m g m' g' _ hagree
  refine ⟨Cert.Kernel5Ideal.In.restOf m, Cert.Kernel5Ideal.In.headsOf m, Cert.Kernel5Ideal.In.run_results m g, ?_⟩
  refine θ_run_mono (Cert.Reference5Ideal.Value.run m' g') fun r hr c =>
    ⟨(hr c).1.trans ?_, (hr c).2.1.trans ?_, (hr c).2.2⟩ <;> obtain ⟨h0, h1, h2, h3, h4⟩ := hagree c
  · rw [Cert.Reference5Ideal.Read.val_main_v94_eq, h0, h1, h2, h3, h4]
    exact Cert.Reference5Ideal.In.rest_eq _ _ _ _ _
  · rw [Cert.Reference5Ideal.Read.val_main_v96_eq, h0, h1, h2, h3, h4]
    exact Cert.Reference5Ideal.In.heads_eq _ _ _ _ _

theorem reference6_frame : Cert.quiescent_Reference6Ideal (hReference6Ideal := Cert.Reference6Ideal.Gen.facts) := fun m g _ =>
  θ_run_mono (Cert.Reference6Ideal.Value.run m g) fun r hr =>
    And.intro (fun c => (hr c).2.2.2) (sem_eq_zero_of_no_sems (by decide) r.2)

theorem algebraic_second_out : Cert.algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 12 (Cert.Kernel6Ideal.cfgs 0).N,
    fun c => (Cert.Kernel6Ideal.Gen.dats m 0 c).arrAt 13 (Cert.Kernel6Ideal.cfgs 0).N,
    fun c => (Cert.Kernel6Ideal.Gen.dats m 0 c).arrAt 14 (Cert.Kernel6Ideal.cfgs 0).N,
    Cert.Kernel6Ideal.Value.run_blocks m g, ?_⟩
  refine θ_run_mono (Cert.Reference6Ideal.Value.run m' g') fun r hr c =>
    ⟨(hr c).1.trans ?_, (hr c).2.1.trans ?_, (hr c).2.2.1.trans ?_, (hr c).2.2.2⟩ <;>
    obtain ⟨h0, h1, h2, h3, h4, h5, h6, h7, h8, h9, h10, h11⟩ := hagree c
  · rw [Cert.Reference6Ideal.Read.val_main_v71_eq, h0, h1, h2, h3, h4, h5, h6, h7]
    refine Eq.trans ?_ (Cert.Kernel6Ideal.Out.outs_array m c).symm
    exact Cert.Reference6Ideal.Out.outs_eq _ _ _ _ _ _ _ _ _ _ _ _
  · rw [Cert.Reference6Ideal.Read.val_main_v72_eq, h0, h1, h2, h3, h4, h5, h6, h7, h8, h9, h10]
    refine Eq.trans ?_ (Cert.Kernel6Ideal.Out.hiddens_array m c).symm
    exact Cert.Reference6Ideal.Out.hiddens_eq _ _ _ _ _ _ _ _ _ _ _ _
  · rw [Cert.Reference6Ideal.Read.val_main_v73_eq, h0, h1, h2, h3, h4, h5, h6, h7, h8, h9, h10, h11]
    refine Eq.trans ?_ (Cert.Kernel6Ideal.Out.probs_array m c).symm
    exact Cert.Reference6Ideal.Out.probs_eq _ _ _ _ _ _ _ _ _ _ _ _

theorem reference7_frame : Cert.quiescent_Reference7Ideal (hReference7Ideal := Cert.Reference7Ideal.Gen.facts) := fun m g _ =>
  θ_run_mono (Cert.Reference7Ideal.Value.run m g) fun r hr =>
    And.intro (fun c => (hr c).2) (sem_eq_zero_of_no_sems (by decide) r.2)

theorem algebraic_cast7 : Cert.algebraic_Kernel7Ideal_Reference7Ideal (hKernel7Ideal := Cert.Kernel7Ideal.Gen.facts)
    (hReference7Ideal := Cert.Reference7Ideal.Gen.facts) := by
  intro m g m' g' _ hagree
  refine ⟨fun c => (Cert.Kernel7Ideal.Gen.dats m 0 c).arrAt 1 (Cert.Kernel7Ideal.cfgs 0).N,
    Cert.Kernel7Ideal.Value.run_blocks m g, ?_⟩
  refine θ_run_mono (Cert.Reference7Ideal.Value.run m' g') fun r hr c => ⟨(hr c).1.trans ?_, (hr c).2⟩
  rw [Cert.Reference7Ideal.Read.val_main_v1_eq, hagree c]
  exact (Cert.Kernel7Ideal.Cast.array m c).symm

theorem reference8_frame : Cert.quiescent_Reference8Ideal (hReference8Ideal := Cert.Reference8Ideal.Gen.facts) := fun m g _ =>
  θ_run_mono (Cert.Reference8Ideal.Value.run m g) fun r hr =>
    And.intro (fun c => (hr c).2) (sem_eq_zero_of_no_sems (by decide) r.2)

theorem algebraic_cast8 : Cert.algebraic_Kernel8Ideal_Reference8Ideal (hKernel8Ideal := Cert.Kernel8Ideal.Gen.facts)
    (hReference8Ideal := Cert.Reference8Ideal.Gen.facts) := by
  intro m g m' g' _ hagree
  refine ⟨fun c => (Cert.Kernel8Ideal.Gen.dats m 0 c).arrAt 1 (Cert.Kernel8Ideal.cfgs 0).N,
    Cert.Kernel8Ideal.Value.run_blocks m g, ?_⟩
  refine θ_run_mono (Cert.Reference8Ideal.Value.run m' g') fun r hr c => ⟨(hr c).1.trans ?_, (hr c).2⟩
  rw [Cert.Reference8Ideal.Read.val_main_v1_eq, hagree c]
  exact (Cert.Kernel8Ideal.Cast.array m c).symm

theorem reference9_frame : Cert.quiescent_Reference9Ideal (hReference9Ideal := Cert.Reference9Ideal.Gen.facts) := fun m g _ =>
  θ_run_mono (Cert.Reference9Ideal.Value.run m g) fun r hr =>
    And.intro (fun c => (hr c).2) (sem_eq_zero_of_no_sems (by decide) r.2)

theorem algebraic_cast9 : Cert.algebraic_Kernel9Ideal_Reference9Ideal (hKernel9Ideal := Cert.Kernel9Ideal.Gen.facts)
    (hReference9Ideal := Cert.Reference9Ideal.Gen.facts) := by
  intro m g m' g' _ hagree
  refine ⟨fun c => (Cert.Kernel9Ideal.Gen.dats m 0 c).arrAt 1 (Cert.Kernel9Ideal.cfgs 0).N,
    Cert.Kernel9Ideal.Value.run_blocks m g, ?_⟩
  refine θ_run_mono (Cert.Reference9Ideal.Value.run m' g') fun r hr c => ⟨(hr c).1.trans ?_, (hr c).2⟩
  rw [Cert.Reference9Ideal.Read.val_main_v1_eq, hagree c]
  exact (Cert.Kernel9Ideal.Cast.array m c).symm

theorem reference10_frame : Cert.quiescent_Reference10Ideal (hReference10Ideal := Cert.Reference10Ideal.Gen.facts) := fun m g _ =>
  θ_run_mono (Cert.Reference10Ideal.Value.run m g) fun r hr =>
    And.intro (fun c => (hr c).2) (sem_eq_zero_of_no_sems (by decide) r.2)

theorem algebraic_cast10 : Cert.algebraic_Kernel10Ideal_Reference10Ideal (hKernel10Ideal := Cert.Kernel10Ideal.Gen.facts)
    (hReference10Ideal := Cert.Reference10Ideal.Gen.facts) := by
  intro m g m' g' _ hagree
  refine ⟨fun c => (Cert.Kernel10Ideal.Gen.dats m 0 c).arrAt 1 (Cert.Kernel10Ideal.cfgs 0).N,
    Cert.Kernel10Ideal.Value.run_blocks m g, ?_⟩
  refine θ_run_mono (Cert.Reference10Ideal.Value.run m' g') fun r hr c => ⟨(hr c).1.trans ?_, (hr c).2⟩
  rw [Cert.Reference10Ideal.Read.val_main_v1_eq, hagree c]
  exact (Cert.Kernel10Ideal.Cast.array m c).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts, Cert.Pre_finite_inputs.Attn.facts,
    fun m g _ => Cert.Kernel.Gen.frame m g,
    fun m g _ => Cert.KernelIdeal.Gen.frame m g,
    fun m g _ => Cert.KernelIdeal.Gen.frame m g,
    fun m g _ => reference_frame m g trivial,
    fun m g _ => reference_frame m g trivial,
    fun m g _ => Cert.Kernel2.In.frame m g,
    fun m g _ => Cert.Kernel2Ideal.In.frame m g,
    fun m g _ => reference2_frame m g trivial,
    fun m g _ => Cert.Kernel3.Gen.frame m g,
    fun m g _ => Cert.Kernel3Ideal.Gen.frame m g,
    fun m g _ => reference3_frame m g trivial,
    fun m g _ => Cert.Kernel4.Gen.frame m g,
    fun m g _ => Cert.Kernel4Ideal.Gen.frame m g,
    fun m g _ => reference4_frame m g trivial,
    fun m g _ => Cert.Kernel5.In.frame m g,
    fun m g _ => Cert.Kernel5Ideal.In.frame m g,
    fun m g _ => reference5_frame m g trivial,
    fun m g _ => Cert.Kernel6.Gen.frame m g,
    fun m g _ => Cert.Kernel6Ideal.Gen.frame m g,
    fun m g _ => reference6_frame m g trivial,
    fun m g _ => Cert.Kernel7.Gen.frame m g,
    fun m g _ => Cert.Kernel7Ideal.Gen.frame m g,
    fun m g _ => reference7_frame m g trivial,
    fun m g _ => Cert.Kernel8.Gen.frame m g,
    fun m g _ => Cert.Kernel8Ideal.Gen.frame m g,
    fun m g _ => reference8_frame m g trivial,
    fun m g _ => Cert.Kernel9.Gen.frame m g,
    fun m g _ => Cert.Kernel9Ideal.Gen.frame m g,
    fun m g _ => reference9_frame m g trivial,
    fun m g _ => Cert.Kernel10.Gen.frame m g,
    fun m g _ => Cert.Kernel10Ideal.Gen.frame m g,
    fun m g _ => reference10_frame m g trivial,
    trivial,
    letI := Cert.Pre_finite_inputs.Attn.facts
    algebraic_attn,
    trivial,
    algebraic_in,
    trivial,
    algebraic_out,
    trivial,
    algebraic_cond,
    trivial,
    algebraic_second_in,
    trivial,
    algebraic_second_out,
    trivial,
    algebraic_cast7,
    trivial,
    algebraic_cast8,
    trivial,
    algebraic_cast9,
    trivial,
    algebraic_cast10⟩

end Cert.Proof

end
